-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S1 : Shape := ⟨1, ![1]⟩
abbrev S3x4096x128 : Shape := ⟨3, ![3, 4096, 128]⟩
abbrev S3x128x8192 : Shape := ⟨3, ![3, 128, 8192]⟩
abbrev S2 : Shape := ⟨1, ![2]⟩
abbrev S_ : Shape := ⟨0, ![]⟩
abbrev S1x4096x128 : Shape := ⟨3, ![1, 4096, 128]⟩
abbrev S1x128x8192 : Shape := ⟨3, ![1, 128, 8192]⟩
abbrev S1x128x128 : Shape := ⟨3, ![1, 128, 128]⟩
abbrev S128x128 : Shape := ⟨2, ![128, 128]⟩

abbrev nBuf : Space → Nat
  | .hbm => 5
  | .vmem => 7
  | .smem => 2
  | _ => 0

abbrev bufTy : (tb : Table) → Fin (tcTables nBuf tb) → BufTy
  | .hbm, ⟨0, _⟩ => ⟨S4096x128, .fp8e5m2⟩
  | .hbm, ⟨1, _⟩ => ⟨S128x8192, .fp8e5m2⟩
  | .hbm, ⟨2, _⟩ => ⟨S1, .f32⟩
  | .hbm, ⟨3, _⟩ => ⟨S1, .f32⟩
  | .hbm, ⟨4, _⟩ => ⟨S128x8192, .f32⟩
  | .local _ .vmem, ⟨0, _⟩ => ⟨S4096x128, .fp8e5m2⟩
  | .local _ .vmem, ⟨1, _⟩ => ⟨S128x8192, .fp8e5m2⟩
  | .local _ .vmem, ⟨2, _⟩ => ⟨S128x8192, .f32⟩
  | .local _ .vmem, ⟨3, _⟩ => ⟨S3x4096x128, .fp8e5m2⟩
  | .local _ .vmem, ⟨4, _⟩ => ⟨S3x128x8192, .fp8e5m2⟩
  | .local _ .vmem, ⟨5, _⟩ => ⟨S3x4096x128, .fp8e5m2⟩
  | .local _ .vmem, ⟨6, _⟩ => ⟨S3x128x8192, .fp8e5m2⟩
  | .local _ .smem, ⟨0, _⟩ => ⟨S1, .f32⟩
  | .local _ .smem, ⟨1, _⟩ => ⟨S1, .f32⟩
  | _, _ => ⟨S4096x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 3 21 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_223 : BitVec 32 := 1#32
  let v400 : BitVec 32 := Scalar.muli v251 c1_i32_223
  let v401 : BitVec 32 := Scalar.addi c0_i32_224 v400
  v401.toNat
def k0_dev2 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_226 : BitVec 32 := 1#32
  let v402 : BitVec 32 := Scalar.muli v398 c1_i32_226
  let v403 : BitVec 32 := Scalar.addi c0_i32_227 v402
  v403.toNat
def k0_off1 (d0 : Dev nD) : Fin 3 → Nat :=
  let c2_243 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v420 : BitVec 32 := Scalar.muli v2 c128_i32
  let v421 : Index := Scalar.indexCast v420
  let c0_244 : Index := 0#32
  ![2, v421.toNat, 0]
def k0_dev3 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_254 : BitVec 32 := 1#32
  let v430 : BitVec 32 := Scalar.muli v251 c1_i32_254
  let v431 : BitVec 32 := Scalar.addi c0_i32_255 v430
  v431.toNat
def k0_dev4 (d0 : Dev nD) : Nat :=
  let c0_i32_265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_264 : BitVec 32 := 1#32
  let v440 : BitVec 32 := Scalar.muli v251 c1_i32_264
  let v441 : BitVec 32 := Scalar.addi c0_i32_265 v440
  v441.toNat
def k0_dev5 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_274 : BitVec 32 := 1#32
  let v450 : BitVec 32 := Scalar.muli v398 c1_i32_274
  let v451 : BitVec 32 := Scalar.addi c0_i32_275 v450
  v451.toNat
def k0_dev6 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_284 : BitVec 32 := 1#32
  let v460 : BitVec 32 := Scalar.muli v398 c1_i32_284
  let v461 : BitVec 32 := Scalar.addi c0_i32_285 v460
  v461.toNat
def k0_dev7 (d0 : Dev nD) : Nat :=
  let c0_i32_371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_370 : BitVec 32 := 1#32
  let v526 : BitVec 32 := Scalar.muli v251 c1_i32_370
  let v527 : BitVec 32 := Scalar.addi c0_i32_371 v526
  v527.toNat
def k0_dev8 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_380 : BitVec 32 := 1#32
  let v536 : BitVec 32 := Scalar.muli v251 c1_i32_380
  let v537 : BitVec 32 := Scalar.addi c0_i32_381 v536
  v537.toNat
def k0_dev9 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_390 : BitVec 32 := 1#32
  let v546 : BitVec 32 := Scalar.muli v398 c1_i32_390
  let v547 : BitVec 32 := Scalar.addi c0_i32_391 v546
  v547.toNat
def k0_dev10 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_400 : BitVec 32 := 1#32
  let v556 : BitVec 32 := Scalar.muli v398 c1_i32_400
  let v557 : BitVec 32 := Scalar.addi c0_i32_401 v556
  v557.toNat
def k0_off2 (d0 : Dev nD) : Fin 3 → Nat :=
  let c1 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v420 : BitVec 32 := Scalar.muli v2 c128_i32
  let v566 : Index := Scalar.indexCast v420
  let c0_406 : Index := 0#32
  ![1, v566.toNat, 0]
def k0_dev11 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_502 : BitVec 32 := 1#32
  let v646 : BitVec 32 := Scalar.muli v398 c1_i32_502
  let v647 : BitVec 32 := Scalar.addi c0_i32_503 v646
  v647.toNat
def k0_dev12 (d0 : Dev nD) : Nat :=
  let c0_i32_506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_505 : BitVec 32 := 1#32
  let v648 : BitVec 32 := Scalar.muli v251 c1_i32_505
  let v649 : BitVec 32 := Scalar.addi c0_i32_506 v648
  v649.toNat
def k0_dev13 (d0 : Dev nD) : Nat :=
  let c0_i32_516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_515 : BitVec 32 := 1#32
  let v650 : BitVec 32 := Scalar.muli v251 c1_i32_515
  let v651 : BitVec 32 := Scalar.addi c0_i32_516 v650
  v651.toNat
def k0_dev14 (d0 : Dev nD) : Nat :=
  let c0_i32_526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_525 : BitVec 32 := 1#32
  let v660 : BitVec 32 := Scalar.muli v251 c1_i32_525
  let v661 : BitVec 32 := Scalar.addi c0_i32_526 v660
  v661.toNat
def k0_dev15 (d0 : Dev nD) : Nat :=
  let c0_i32_536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_535 : BitVec 32 := 1#32
  let v670 : BitVec 32 := Scalar.muli v398 c1_i32_535
  let v671 : BitVec 32 := Scalar.addi c0_i32_536 v670
  v671.toNat
def k0_dev16 (d0 : Dev nD) : Nat :=
  let c0_i32_546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_545 : BitVec 32 := 1#32
  let v680 : BitVec 32 := Scalar.muli v398 c1_i32_545
  let v681 : BitVec 32 := Scalar.addi c0_i32_546 v680
  v681.toNat
def k0_off3 (d0 : Dev nD) : Fin 3 → Nat :=
  let c0_551 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v420 : BitVec 32 := Scalar.muli v2 c128_i32
  let v690 : Index := Scalar.indexCast v420
  let c0_552 : Index := 0#32
  ![0, v690.toNat, 0]
def k0_dev17 (d0 : Dev nD) : Nat :=
  let c0_i32_649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_648 : BitVec 32 := 1#32
  let v770 : BitVec 32 := Scalar.muli v398 c1_i32_648
  let v771 : BitVec 32 := Scalar.addi c0_i32_649 v770
  v771.toNat
def k0_dev18 (d0 : Dev nD) : Nat :=
  let c0_i32_652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_651 : BitVec 32 := 1#32
  let v772 : BitVec 32 := Scalar.muli v251 c1_i32_651
  let v773 : BitVec 32 := Scalar.addi c0_i32_652 v772
  v773.toNat
def k0_dev19 (d0 : Dev nD) : Nat :=
  let c0_i32_662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_661 : BitVec 32 := 1#32
  let v774 : BitVec 32 := Scalar.muli v251 c1_i32_661
  let v775 : BitVec 32 := Scalar.addi c0_i32_662 v774
  v775.toNat
def k0_dev20 (d0 : Dev nD) : Nat :=
  let c0_i32_672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_671 : BitVec 32 := 1#32
  let v784 : BitVec 32 := Scalar.muli v251 c1_i32_671
  let v785 : BitVec 32 := Scalar.addi c0_i32_672 v784
  v785.toNat
def k0_dev21 (d0 : Dev nD) : Nat :=
  let c0_i32_682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_681 : BitVec 32 := 1#32
  let v794 : BitVec 32 := Scalar.muli v398 c1_i32_681
  let v795 : BitVec 32 := Scalar.addi c0_i32_682 v794
  v795.toNat
def k0_dev22 (d0 : Dev nD) : Nat :=
  let c0_i32_692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_691 : BitVec 32 := 1#32
  let v804 : BitVec 32 := Scalar.muli v398 c1_i32_691
  let v805 : BitVec 32 := Scalar.addi c0_i32_692 v804
  v805.toNat
def k0_dev23 (d0 : Dev nD) : Nat :=
  let c0_i32_795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_794 : BitVec 32 := 1#32
  let v894 : BitVec 32 := Scalar.muli v398 c1_i32_794
  let v895 : BitVec 32 := Scalar.addi c0_i32_795 v894
  v895.toNat
def k0_dev24 (d0 : Dev nD) : Nat :=
  let c0_i32_798 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_797 : BitVec 32 := 1#32
  let v896 : BitVec 32 := Scalar.muli v251 c1_i32_797
  let v897 : BitVec 32 := Scalar.addi c0_i32_798 v896
  v897.toNat
def k0_dev25 (d0 : Dev nD) : Nat :=
  let c0_i32_808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_807 : BitVec 32 := 1#32
  let v898 : BitVec 32 := Scalar.muli v251 c1_i32_807
  let v899 : BitVec 32 := Scalar.addi c0_i32_808 v898
  v899.toNat
def k0_dev26 (d0 : Dev nD) : Nat :=
  let c0_i32_818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_817 : BitVec 32 := 1#32
  let v908 : BitVec 32 := Scalar.muli v251 c1_i32_817
  let v909 : BitVec 32 := Scalar.addi c0_i32_818 v908
  v909.toNat
def k0_dev27 (d0 : Dev nD) : Nat :=
  let c0_i32_828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_827 : BitVec 32 := 1#32
  let v918 : BitVec 32 := Scalar.muli v398 c1_i32_827
  let v919 : BitVec 32 := Scalar.addi c0_i32_828 v918
  v919.toNat
def k0_dev28 (d0 : Dev nD) : Nat :=
  let c0_i32_838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_837 : BitVec 32 := 1#32
  let v928 : BitVec 32 := Scalar.muli v398 c1_i32_837
  let v929 : BitVec 32 := Scalar.addi c0_i32_838 v928
  v929.toNat
def k0_dev29 (d0 : Dev nD) : Nat :=
  let c0_i32_941 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_940 : BitVec 32 := 1#32
  let v1018 : BitVec 32 := Scalar.muli v398 c1_i32_940
  let v1019 : BitVec 32 := Scalar.addi c0_i32_941 v1018
  v1019.toNat
def k0_dev30 (d0 : Dev nD) : Nat :=
  let c0_i32_944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_943 : BitVec 32 := 1#32
  let v1020 : BitVec 32 := Scalar.muli v251 c1_i32_943
  let v1021 : BitVec 32 := Scalar.addi c0_i32_944 v1020
  v1021.toNat
def k0_dev31 (d0 : Dev nD) : Nat :=
  let c0_i32_954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_953 : BitVec 32 := 1#32
  let v1022 : BitVec 32 := Scalar.muli v251 c1_i32_953
  let v1023 : BitVec 32 := Scalar.addi c0_i32_954 v1022
  v1023.toNat
def k0_dev32 (d0 : Dev nD) : Nat :=
  let c0_i32_964 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_963 : BitVec 32 := 1#32
  let v1032 : BitVec 32 := Scalar.muli v251 c1_i32_963
  let v1033 : BitVec 32 := Scalar.addi c0_i32_964 v1032
  v1033.toNat
def k0_dev33 (d0 : Dev nD) : Nat :=
  let c0_i32_974 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_973 : BitVec 32 := 1#32
  let v1042 : BitVec 32 := Scalar.muli v398 c1_i32_973
  let v1043 : BitVec 32 := Scalar.addi c0_i32_974 v1042
  v1043.toNat
def k0_dev34 (d0 : Dev nD) : Nat :=
  let c0_i32_984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_983 : BitVec 32 := 1#32
  let v1052 : BitVec 32 := Scalar.muli v398 c1_i32_983
  let v1053 : BitVec 32 := Scalar.addi c0_i32_984 v1052
  v1053.toNat
def k0_dev35 (d0 : Dev nD) : Nat :=
  let c0_i32_1087 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_1086 : BitVec 32 := 1#32
  let v1142 : BitVec 32 := Scalar.muli v398 c1_i32_1086
  let v1143 : BitVec 32 := Scalar.addi c0_i32_1087 v1142
  v1143.toNat
def k0_dev36 (d0 : Dev nD) : Nat :=
  let c0_i32_1090 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_1089 : BitVec 32 := 1#32
  let v1144 : BitVec 32 := Scalar.muli v251 c1_i32_1089
  let v1145 : BitVec 32 := Scalar.addi c0_i32_1090 v1144
  v1145.toNat
def k0_dev37 (d0 : Dev nD) : Nat :=
  let c0_i32_1100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_1099 : BitVec 32 := 1#32
  let v1146 : BitVec 32 := Scalar.muli v251 c1_i32_1099
  let v1147 : BitVec 32 := Scalar.addi c0_i32_1100 v1146
  v1147.toNat
def k0_dev38 (d0 : Dev nD) : Nat :=
  let c0_i32_1110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_1109 : BitVec 32 := 1#32
  let v1156 : BitVec 32 := Scalar.muli v251 c1_i32_1109
  let v1157 : BitVec 32 := Scalar.addi c0_i32_1110 v1156
  v1157.toNat
def k0_dev39 (d0 : Dev nD) : Nat :=
  let c0_i32_1120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_1119 : BitVec 32 := 1#32
  let v1166 : BitVec 32 := Scalar.muli v398 c1_i32_1119
  let v1167 : BitVec 32 := Scalar.addi c0_i32_1120 v1166
  v1167.toNat
def k0_dev40 (d0 : Dev nD) : Nat :=
  let c0_i32_1130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_1129 : BitVec 32 := 1#32
  let v1176 : BitVec 32 := Scalar.muli v398 c1_i32_1129
  let v1177 : BitVec 32 := Scalar.addi c0_i32_1130 v1176
  v1177.toNat
def k0_dev41 (d0 : Dev nD) : Nat :=
  let c0_i32_1233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_1232 : BitVec 32 := 1#32
  let v1266 : BitVec 32 := Scalar.muli v398 c1_i32_1232
  let v1267 : BitVec 32 := Scalar.addi c0_i32_1233 v1266
  v1267.toNat
def k0_dev42 (d0 : Dev nD) : Nat :=
  let c0_i32_1236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_1235 : BitVec 32 := 1#32
  let v1268 : BitVec 32 := Scalar.muli v251 c1_i32_1235
  let v1269 : BitVec 32 := Scalar.addi c0_i32_1236 v1268
  v1269.toNat
def k0_dev43 (d0 : Dev nD) : Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_1245 : BitVec 32 := 1#32
  let v1270 : BitVec 32 := Scalar.muli v251 c1_i32_1245
  let v1271 : BitVec 32 := Scalar.addi c0_i32_1246 v1270
  v1271.toNat
def k0_dev44 (d0 : Dev nD) : Nat :=
  let c0_i32_1256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_1255 : BitVec 32 := 1#32
  let v1280 : BitVec 32 := Scalar.muli v251 c1_i32_1255
  let v1281 : BitVec 32 := Scalar.addi c0_i32_1256 v1280
  v1281.toNat
def k0_dev45 (d0 : Dev nD) : Nat :=
  let c0_i32_1266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_1265 : BitVec 32 := 1#32
  let v1290 : BitVec 32 := Scalar.muli v398 c1_i32_1265
  let v1291 : BitVec 32 := Scalar.addi c0_i32_1266 v1290
  v1291.toNat
def k0_dev46 (d0 : Dev nD) : Nat :=
  let c0_i32_1276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_1275 : BitVec 32 := 1#32
  let v1300 : BitVec 32 := Scalar.muli v398 c1_i32_1275
  let v1301 : BitVec 32 := Scalar.addi c0_i32_1276 v1300
  v1301.toNat
def k0_dev47 (d0 : Dev nD) : Nat :=
  let c0_i32_1379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_1378 : BitVec 32 := 1#32
  let v1390 : BitVec 32 := Scalar.muli v398 c1_i32_1378
  let v1391 : BitVec 32 := Scalar.addi c0_i32_1379 v1390
  v1391.toNat
def k0_dev48 (d0 : Dev nD) : Nat :=
  let c0_i32_1382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_1381 : BitVec 32 := 1#32
  let v1392 : BitVec 32 := Scalar.muli v251 c1_i32_1381
  let v1393 : BitVec 32 := Scalar.addi c0_i32_1382 v1392
  v1393.toNat
def k0_dev49 (d0 : Dev nD) : Nat :=
  let c0_i32_1392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_1391 : BitVec 32 := 1#32
  let v1394 : BitVec 32 := Scalar.muli v251 c1_i32_1391
  let v1395 : BitVec 32 := Scalar.addi c0_i32_1392 v1394
  v1395.toNat
def k0_dev50 (d0 : Dev nD) : Nat :=
  let c0_i32_1402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_1401 : BitVec 32 := 1#32
  let v1404 : BitVec 32 := Scalar.muli v251 c1_i32_1401
  let v1405 : BitVec 32 := Scalar.addi c0_i32_1402 v1404
  v1405.toNat
def k0_dev51 (d0 : Dev nD) : Nat :=
  let c0_i32_1412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_1411 : BitVec 32 := 1#32
  let v1414 : BitVec 32 := Scalar.muli v398 c1_i32_1411
  let v1415 : BitVec 32 := Scalar.addi c0_i32_1412 v1414
  v1415.toNat
def k0_dev52 (d0 : Dev nD) : Nat :=
  let c0_i32_1422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_1421 : BitVec 32 := 1#32
  let v1424 : BitVec 32 := Scalar.muli v398 c1_i32_1421
  let v1425 : BitVec 32 := Scalar.addi c0_i32_1422 v1424
  v1425.toNat
def k0_dev53 (d0 : Dev nD) : Nat :=
  let c0_i32_1525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_1524 : BitVec 32 := 1#32
  let v1514 : BitVec 32 := Scalar.muli v398 c1_i32_1524
  let v1515 : BitVec 32 := Scalar.addi c0_i32_1525 v1514
  v1515.toNat
def k0_dev54 (d0 : Dev nD) : Nat :=
  let c0_i32_1528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_1527 : BitVec 32 := 1#32
  let v1516 : BitVec 32 := Scalar.muli v251 c1_i32_1527
  let v1517 : BitVec 32 := Scalar.addi c0_i32_1528 v1516
  v1517.toNat
def k0_dev55 (d0 : Dev nD) : Nat :=
  let c0_i32_1538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_1537 : BitVec 32 := 1#32
  let v1518 : BitVec 32 := Scalar.muli v251 c1_i32_1537
  let v1519 : BitVec 32 := Scalar.addi c0_i32_1538 v1518
  v1519.toNat
def k0_dev56 (d0 : Dev nD) : Nat :=
  let c0_i32_1548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_1547 : BitVec 32 := 1#32
  let v1528 : BitVec 32 := Scalar.muli v251 c1_i32_1547
  let v1529 : BitVec 32 := Scalar.addi c0_i32_1548 v1528
  v1529.toNat
def k0_dev57 (d0 : Dev nD) : Nat :=
  let c0_i32_1558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_1557 : BitVec 32 := 1#32
  let v1538 : BitVec 32 := Scalar.muli v398 c1_i32_1557
  let v1539 : BitVec 32 := Scalar.addi c0_i32_1558 v1538
  v1539.toNat
def k0_dev58 (d0 : Dev nD) : Nat :=
  let c0_i32_1568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_1567 : BitVec 32 := 1#32
  let v1548 : BitVec 32 := Scalar.muli v398 c1_i32_1567
  let v1549 : BitVec 32 := Scalar.addi c0_i32_1568 v1548
  v1549.toNat
def k0_dev59 (d0 : Dev nD) : Nat :=
  let c0_i32_1671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_1670 : BitVec 32 := 1#32
  let v1638 : BitVec 32 := Scalar.muli v398 c1_i32_1670
  let v1639 : BitVec 32 := Scalar.addi c0_i32_1671 v1638
  v1639.toNat
def k0_dev60 (d0 : Dev nD) : Nat :=
  let c0_i32_1674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_1673 : BitVec 32 := 1#32
  let v1640 : BitVec 32 := Scalar.muli v251 c1_i32_1673
  let v1641 : BitVec 32 := Scalar.addi c0_i32_1674 v1640
  v1641.toNat
def k0_dev61 (d0 : Dev nD) : Nat :=
  let c0_i32_1684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_1683 : BitVec 32 := 1#32
  let v1642 : BitVec 32 := Scalar.muli v251 c1_i32_1683
  let v1643 : BitVec 32 := Scalar.addi c0_i32_1684 v1642
  v1643.toNat
def k0_dev62 (d0 : Dev nD) : Nat :=
  let c0_i32_1694 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_1693 : BitVec 32 := 1#32
  let v1652 : BitVec 32 := Scalar.muli v251 c1_i32_1693
  let v1653 : BitVec 32 := Scalar.addi c0_i32_1694 v1652
  v1653.toNat
def k0_dev63 (d0 : Dev nD) : Nat :=
  let c0_i32_1704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_1703 : BitVec 32 := 1#32
  let v1662 : BitVec 32 := Scalar.muli v398 c1_i32_1703
  let v1663 : BitVec 32 := Scalar.addi c0_i32_1704 v1662
  v1663.toNat
def k0_dev64 (d0 : Dev nD) : Nat :=
  let c0_i32_1714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_1713 : BitVec 32 := 1#32
  let v1672 : BitVec 32 := Scalar.muli v398 c1_i32_1713
  let v1673 : BitVec 32 := Scalar.addi c0_i32_1714 v1672
  v1673.toNat
def k0_dev65 (d0 : Dev nD) : Nat :=
  let c0_i32_1817 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_1816 : BitVec 32 := 1#32
  let v1762 : BitVec 32 := Scalar.muli v398 c1_i32_1816
  let v1763 : BitVec 32 := Scalar.addi c0_i32_1817 v1762
  v1763.toNat
def k0_dev66 (d0 : Dev nD) : Nat :=
  let c0_i32_1820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_1819 : BitVec 32 := 1#32
  let v1764 : BitVec 32 := Scalar.muli v251 c1_i32_1819
  let v1765 : BitVec 32 := Scalar.addi c0_i32_1820 v1764
  v1765.toNat
def k0_dev67 (d0 : Dev nD) : Nat :=
  let c0_i32_1830 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_1829 : BitVec 32 := 1#32
  let v1766 : BitVec 32 := Scalar.muli v251 c1_i32_1829
  let v1767 : BitVec 32 := Scalar.addi c0_i32_1830 v1766
  v1767.toNat
def k0_dev68 (d0 : Dev nD) : Nat :=
  let c0_i32_1840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_1839 : BitVec 32 := 1#32
  let v1776 : BitVec 32 := Scalar.muli v251 c1_i32_1839
  let v1777 : BitVec 32 := Scalar.addi c0_i32_1840 v1776
  v1777.toNat
def k0_dev69 (d0 : Dev nD) : Nat :=
  let c0_i32_1850 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_1849 : BitVec 32 := 1#32
  let v1786 : BitVec 32 := Scalar.muli v398 c1_i32_1849
  let v1787 : BitVec 32 := Scalar.addi c0_i32_1850 v1786
  v1787.toNat
def k0_dev70 (d0 : Dev nD) : Nat :=
  let c0_i32_1860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_1859 : BitVec 32 := 1#32
  let v1796 : BitVec 32 := Scalar.muli v398 c1_i32_1859
  let v1797 : BitVec 32 := Scalar.addi c0_i32_1860 v1796
  v1797.toNat
def k0_dev71 (d0 : Dev nD) : Nat :=
  let c0_i32_1963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_1962 : BitVec 32 := 1#32
  let v1886 : BitVec 32 := Scalar.muli v398 c1_i32_1962
  let v1887 : BitVec 32 := Scalar.addi c0_i32_1963 v1886
  v1887.toNat
def k0_dev72 (d0 : Dev nD) : Nat :=
  let c0_i32_1966 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_1965 : BitVec 32 := 1#32
  let v1888 : BitVec 32 := Scalar.muli v251 c1_i32_1965
  let v1889 : BitVec 32 := Scalar.addi c0_i32_1966 v1888
  v1889.toNat
def k0_dev73 (d0 : Dev nD) : Nat :=
  let c0_i32_1976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_1975 : BitVec 32 := 1#32
  let v1890 : BitVec 32 := Scalar.muli v251 c1_i32_1975
  let v1891 : BitVec 32 := Scalar.addi c0_i32_1976 v1890
  v1891.toNat
def k0_dev74 (d0 : Dev nD) : Nat :=
  let c0_i32_1986 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_1985 : BitVec 32 := 1#32
  let v1900 : BitVec 32 := Scalar.muli v251 c1_i32_1985
  let v1901 : BitVec 32 := Scalar.addi c0_i32_1986 v1900
  v1901.toNat
def k0_dev75 (d0 : Dev nD) : Nat :=
  let c0_i32_1996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_1995 : BitVec 32 := 1#32
  let v1910 : BitVec 32 := Scalar.muli v398 c1_i32_1995
  let v1911 : BitVec 32 := Scalar.addi c0_i32_1996 v1910
  v1911.toNat
def k0_dev76 (d0 : Dev nD) : Nat :=
  let c0_i32_2006 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_2005 : BitVec 32 := 1#32
  let v1920 : BitVec 32 := Scalar.muli v398 c1_i32_2005
  let v1921 : BitVec 32 := Scalar.addi c0_i32_2006 v1920
  v1921.toNat
def k0_dev77 (d0 : Dev nD) : Nat :=
  let c0_i32_2109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_2108 : BitVec 32 := 1#32
  let v2010 : BitVec 32 := Scalar.muli v398 c1_i32_2108
  let v2011 : BitVec 32 := Scalar.addi c0_i32_2109 v2010
  v2011.toNat
def k0_dev78 (d0 : Dev nD) : Nat :=
  let c0_i32_2112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_2111 : BitVec 32 := 1#32
  let v2012 : BitVec 32 := Scalar.muli v251 c1_i32_2111
  let v2013 : BitVec 32 := Scalar.addi c0_i32_2112 v2012
  v2013.toNat
def k0_dev79 (d0 : Dev nD) : Nat :=
  let c0_i32_2122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_2121 : BitVec 32 := 1#32
  let v2014 : BitVec 32 := Scalar.muli v251 c1_i32_2121
  let v2015 : BitVec 32 := Scalar.addi c0_i32_2122 v2014
  v2015.toNat
def k0_dev80 (d0 : Dev nD) : Nat :=
  let c0_i32_2132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_2131 : BitVec 32 := 1#32
  let v2024 : BitVec 32 := Scalar.muli v251 c1_i32_2131
  let v2025 : BitVec 32 := Scalar.addi c0_i32_2132 v2024
  v2025.toNat
def k0_dev81 (d0 : Dev nD) : Nat :=
  let c0_i32_2142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_2141 : BitVec 32 := 1#32
  let v2034 : BitVec 32 := Scalar.muli v398 c1_i32_2141
  let v2035 : BitVec 32 := Scalar.addi c0_i32_2142 v2034
  v2035.toNat
def k0_dev82 (d0 : Dev nD) : Nat :=
  let c0_i32_2152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_2151 : BitVec 32 := 1#32
  let v2044 : BitVec 32 := Scalar.muli v398 c1_i32_2151
  let v2045 : BitVec 32 := Scalar.addi c0_i32_2152 v2044
  v2045.toNat
def k0_dev83 (d0 : Dev nD) : Nat :=
  let c0_i32_2255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_2254 : BitVec 32 := 1#32
  let v2134 : BitVec 32 := Scalar.muli v398 c1_i32_2254
  let v2135 : BitVec 32 := Scalar.addi c0_i32_2255 v2134
  v2135.toNat
def k0_dev84 (d0 : Dev nD) : Nat :=
  let c0_i32_2258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_2257 : BitVec 32 := 1#32
  let v2136 : BitVec 32 := Scalar.muli v251 c1_i32_2257
  let v2137 : BitVec 32 := Scalar.addi c0_i32_2258 v2136
  v2137.toNat
def k0_dev85 (d0 : Dev nD) : Nat :=
  let c0_i32_2268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_2267 : BitVec 32 := 1#32
  let v2138 : BitVec 32 := Scalar.muli v251 c1_i32_2267
  let v2139 : BitVec 32 := Scalar.addi c0_i32_2268 v2138
  v2139.toNat
def k0_dev86 (d0 : Dev nD) : Nat :=
  let c0_i32_2278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_2277 : BitVec 32 := 1#32
  let v2148 : BitVec 32 := Scalar.muli v251 c1_i32_2277
  let v2149 : BitVec 32 := Scalar.addi c0_i32_2278 v2148
  v2149.toNat
def k0_dev87 (d0 : Dev nD) : Nat :=
  let c0_i32_2288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_2287 : BitVec 32 := 1#32
  let v2158 : BitVec 32 := Scalar.muli v398 c1_i32_2287
  let v2159 : BitVec 32 := Scalar.addi c0_i32_2288 v2158
  v2159.toNat
def k0_dev88 (d0 : Dev nD) : Nat :=
  let c0_i32_2298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_2297 : BitVec 32 := 1#32
  let v2168 : BitVec 32 := Scalar.muli v398 c1_i32_2297
  let v2169 : BitVec 32 := Scalar.addi c0_i32_2298 v2168
  v2169.toNat
def k0_dev89 (d0 : Dev nD) : Nat :=
  let c0_i32_2401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c1_i32_136 : BitVec 32 := 1#32
  let v252 : BitVec 32 := Scalar.addi v103 c1_i32_136
  let c32_i32_137 : BitVec 32 := 32#32
  let c0_i32_138 : BitVec 32 := 0#32
  let v253 : BitVec 1 := Scalar.cmpi .eq c32_i32_137 c0_i32_138
  let c1_i32_139 : BitVec 32 := 1#32
  let v254 : BitVec 32 := Scalar.select v253 c1_i32_139 c32_i32_137
  let v255 : BitVec 32 := Scalar.remsi v252 v254
  let c0_i32_141 : BitVec 32 := 0#32
  let v257 : BitVec 1 := Scalar.cmpi .slt v255 c0_i32_141
  let c0_i32_142 : BitVec 32 := 0#32
  let v258 : BitVec 1 := Scalar.cmpi .slt v254 c0_i32_142
  let v259 : BitVec 1 := Scalar.xori v257 v258
  let c0_i32_140 : BitVec 32 := 0#32
  let v256 : BitVec 1 := Scalar.cmpi .ne v255 c0_i32_140
  let v260 : BitVec 1 := Scalar.andi v259 v256
  let v261 : BitVec 32 := Scalar.addi v255 v254
  let v262 : BitVec 32 := Scalar.select v260 v261 v255
  let c16_i32_221 : BitVec 32 := 16#32
  let v397 : BitVec 1 := Scalar.cmpi .slt v262 c16_i32_221
  let c0_i32_144 : BitVec 32 := 0#32
  let v264 : BitVec 1 := Scalar.cmpi .sgt v262 c0_i32_144
  let v265 : BitVec 32 := Scalar.extui v264
  let c0_i32_145 : BitVec 32 := 0#32
  let v266 : BitVec 1 := Scalar.cmpi .slt v262 c0_i32_145
  let v267 : BitVec 32 := Scalar.extui v266
  let v268 : BitVec 32 := Scalar.subi v265 v267
  let c4_i32_143 : BitVec 32 := 4#32
  let c0_i32_146 : BitVec 32 := 0#32
  let v269 : BitVec 1 := Scalar.cmpi .sgt c4_i32_143 c0_i32_146
  let v270 : BitVec 32 := Scalar.extui v269
  let c0_i32_147 : BitVec 32 := 0#32
  let v271 : BitVec 1 := Scalar.cmpi .slt c4_i32_143 c0_i32_147
  let v272 : BitVec 32 := Scalar.extui v271
  let v273 : BitVec 32 := Scalar.subi v270 v272
  let v274 : BitVec 1 := Scalar.cmpi .ne v268 v273
  let v275 : BitVec 32 := Scalar.remsi v262 c4_i32_143
  let c0_i32_148 : BitVec 32 := 0#32
  let v276 : BitVec 1 := Scalar.cmpi .ne v275 c0_i32_148
  let v277 : BitVec 1 := Scalar.andi v274 v276
  let v263 : BitVec 32 := Scalar.divsi v262 c4_i32_143
  let c1_i32_149 : BitVec 32 := 1#32
  let v278 : BitVec 32 := Scalar.subi v263 c1_i32_149
  let v279 : BitVec 32 := Scalar.select v277 v278 v263
  let c8_i32_170 : BitVec 32 := 8#32
  let v313 : BitVec 32 := Scalar.muli v279 c8_i32_170
  let c2_i32_150 : BitVec 32 := 2#32
  let c0_i32_151 : BitVec 32 := 0#32
  let v280 : BitVec 1 := Scalar.cmpi .eq c2_i32_150 c0_i32_151
  let c1_i32_152 : BitVec 32 := 1#32
  let v281 : BitVec 32 := Scalar.select v280 c1_i32_152 c2_i32_150
  let v282 : BitVec 32 := Scalar.remsi v279 v281
  let c0_i32_154 : BitVec 32 := 0#32
  let v284 : BitVec 1 := Scalar.cmpi .slt v282 c0_i32_154
  let c0_i32_155 : BitVec 32 := 0#32
  let v285 : BitVec 1 := Scalar.cmpi .slt v281 c0_i32_155
  let v286 : BitVec 1 := Scalar.xori v284 v285
  let c0_i32_153 : BitVec 32 := 0#32
  let v283 : BitVec 1 := Scalar.cmpi .ne v282 c0_i32_153
  let v287 : BitVec 1 := Scalar.andi v286 v283
  let v288 : BitVec 32 := Scalar.addi v282 v281
  let v289 : BitVec 32 := Scalar.select v287 v288 v282
  let c0_i32_156 : BitVec 32 := 0#32
  let v290 : BitVec 1 := Scalar.cmpi .eq v289 c0_i32_156
  let c4_i32_157 : BitVec 32 := 4#32
  let c0_i32_158 : BitVec 32 := 0#32
  let v291 : BitVec 1 := Scalar.cmpi .eq c4_i32_157 c0_i32_158
  let c1_i32_159 : BitVec 32 := 1#32
  let v292 : BitVec 32 := Scalar.select v291 c1_i32_159 c4_i32_157
  let v293 : BitVec 32 := Scalar.remsi v262 v292
  let c0_i32_161 : BitVec 32 := 0#32
  let v295 : BitVec 1 := Scalar.cmpi .slt v293 c0_i32_161
  let c0_i32_162 : BitVec 32 := 0#32
  let v296 : BitVec 1 := Scalar.cmpi .slt v292 c0_i32_162
  let v297 : BitVec 1 := Scalar.xori v295 v296
  let c0_i32_160 : BitVec 32 := 0#32
  let v294 : BitVec 1 := Scalar.cmpi .ne v293 c0_i32_160
  let v298 : BitVec 1 := Scalar.andi v297 v294
  let v299 : BitVec 32 := Scalar.addi v293 v292
  let v300 : BitVec 32 := Scalar.select v298 v299 v293
  let c3_i32_169 : BitVec 32 := 3#32
  let c4_i32_163 : BitVec 32 := 4#32
  let c0_i32_164 : BitVec 32 := 0#32
  let v301 : BitVec 1 := Scalar.cmpi .eq c4_i32_163 c0_i32_164
  let c1_i32_165 : BitVec 32 := 1#32
  let v302 : BitVec 32 := Scalar.select v301 c1_i32_165 c4_i32_163
  let v303 : BitVec 32 := Scalar.remsi v262 v302
  let c0_i32_167 : BitVec 32 := 0#32
  let v305 : BitVec 1 := Scalar.cmpi .slt v303 c0_i32_167
  let c0_i32_168 : BitVec 32 := 0#32
  let v306 : BitVec 1 := Scalar.cmpi .slt v302 c0_i32_168
  let v307 : BitVec 1 := Scalar.xori v305 v306
  let c0_i32_166 : BitVec 32 := 0#32
  let v304 : BitVec 1 := Scalar.cmpi .ne v303 c0_i32_166
  let v308 : BitVec 1 := Scalar.andi v307 v304
  let v309 : BitVec 32 := Scalar.addi v303 v302
  let v310 : BitVec 32 := Scalar.select v308 v309 v303
  let v311 : BitVec 32 := Scalar.subi c3_i32_169 v310
  let v312 : BitVec 32 := Scalar.select v290 v300 v311
  let c2_i32_171 : BitVec 32 := 2#32
  let v314 : BitVec 32 := Scalar.muli v312 c2_i32_171
  let v315 : BitVec 32 := Scalar.addi v313 v314
  let c2_i32_172 : BitVec 32 := 2#32
  let c0_i32_173 : BitVec 32 := 0#32
  let v316 : BitVec 1 := Scalar.cmpi .eq c2_i32_172 c0_i32_173
  let c1_i32_174 : BitVec 32 := 1#32
  let v317 : BitVec 32 := Scalar.select v316 c1_i32_174 c2_i32_172
  let v318 : BitVec 32 := Scalar.remsi v312 v317
  let c0_i32_176 : BitVec 32 := 0#32
  let v320 : BitVec 1 := Scalar.cmpi .slt v318 c0_i32_176
  let c0_i32_177 : BitVec 32 := 0#32
  let v321 : BitVec 1 := Scalar.cmpi .slt v317 c0_i32_177
  let v322 : BitVec 1 := Scalar.xori v320 v321
  let c0_i32_175 : BitVec 32 := 0#32
  let v319 : BitVec 1 := Scalar.cmpi .ne v318 c0_i32_175
  let v323 : BitVec 1 := Scalar.andi v322 v319
  let v324 : BitVec 32 := Scalar.addi v318 v317
  let v325 : BitVec 32 := Scalar.select v323 v324 v318
  let c0_i32_178 : BitVec 32 := 0#32
  let v326 : BitVec 1 := Scalar.cmpi .eq v325 c0_i32_178
  let c0_i32_179 : BitVec 32 := 0#32
  let c1_i32_180 : BitVec 32 := 1#32
  let v327 : BitVec 32 := Scalar.select v326 c0_i32_179 c1_i32_180
  let v328 : BitVec 32 := Scalar.addi v315 v327
  let c3_i32_189 : BitVec 32 := 3#32
  let c16_i32_181 : BitVec 32 := 16#32
  let v329 : BitVec 32 := Scalar.subi v262 c16_i32_181
  let c0_i32_183 : BitVec 32 := 0#32
  let v331 : BitVec 1 := Scalar.cmpi .sgt v329 c0_i32_183
  let v332 : BitVec 32 := Scalar.extui v331
  let c0_i32_184 : BitVec 32 := 0#32
  let v333 : BitVec 1 := Scalar.cmpi .slt v329 c0_i32_184
  let v334 : BitVec 32 := Scalar.extui v333
  let v335 : BitVec 32 := Scalar.subi v332 v334
  let c4_i32_182 : BitVec 32 := 4#32
  let c0_i32_185 : BitVec 32 := 0#32
  let v336 : BitVec 1 := Scalar.cmpi .sgt c4_i32_182 c0_i32_185
  let v337 : BitVec 32 := Scalar.extui v336
  let c0_i32_186 : BitVec 32 := 0#32
  let v338 : BitVec 1 := Scalar.cmpi .slt c4_i32_182 c0_i32_186
  let v339 : BitVec 32 := Scalar.extui v338
  let v340 : BitVec 32 := Scalar.subi v337 v339
  let v341 : BitVec 1 := Scalar.cmpi .ne v335 v340
  let v342 : BitVec 32 := Scalar.remsi v329 c4_i32_182
  let c0_i32_187 : BitVec 32 := 0#32
  let v343 : BitVec 1 := Scalar.cmpi .ne v342 c0_i32_187
  let v344 : BitVec 1 := Scalar.andi v341 v343
  let v330 : BitVec 32 := Scalar.divsi v329 c4_i32_182
  let c1_i32_188 : BitVec 32 := 1#32
  let v345 : BitVec 32 := Scalar.subi v330 c1_i32_188
  let v346 : BitVec 32 := Scalar.select v344 v345 v330
  let v347 : BitVec 32 := Scalar.subi c3_i32_189 v346
  let c8_i32_210 : BitVec 32 := 8#32
  let v381 : BitVec 32 := Scalar.muli v347 c8_i32_210
  let c2_i32_190 : BitVec 32 := 2#32
  let c0_i32_191 : BitVec 32 := 0#32
  let v348 : BitVec 1 := Scalar.cmpi .eq c2_i32_190 c0_i32_191
  let c1_i32_192 : BitVec 32 := 1#32
  let v349 : BitVec 32 := Scalar.select v348 c1_i32_192 c2_i32_190
  let v350 : BitVec 32 := Scalar.remsi v346 v349
  let c0_i32_194 : BitVec 32 := 0#32
  let v352 : BitVec 1 := Scalar.cmpi .slt v350 c0_i32_194
  let c0_i32_195 : BitVec 32 := 0#32
  let v353 : BitVec 1 := Scalar.cmpi .slt v349 c0_i32_195
  let v354 : BitVec 1 := Scalar.xori v352 v353
  let c0_i32_193 : BitVec 32 := 0#32
  let v351 : BitVec 1 := Scalar.cmpi .ne v350 c0_i32_193
  let v355 : BitVec 1 := Scalar.andi v354 v351
  let v356 : BitVec 32 := Scalar.addi v350 v349
  let v357 : BitVec 32 := Scalar.select v355 v356 v350
  let c0_i32_196 : BitVec 32 := 0#32
  let v358 : BitVec 1 := Scalar.cmpi .eq v357 c0_i32_196
  let c4_i32_197 : BitVec 32 := 4#32
  let c0_i32_198 : BitVec 32 := 0#32
  let v359 : BitVec 1 := Scalar.cmpi .eq c4_i32_197 c0_i32_198
  let c1_i32_199 : BitVec 32 := 1#32
  let v360 : BitVec 32 := Scalar.select v359 c1_i32_199 c4_i32_197
  let v361 : BitVec 32 := Scalar.remsi v329 v360
  let c0_i32_201 : BitVec 32 := 0#32
  let v363 : BitVec 1 := Scalar.cmpi .slt v361 c0_i32_201
  let c0_i32_202 : BitVec 32 := 0#32
  let v364 : BitVec 1 := Scalar.cmpi .slt v360 c0_i32_202
  let v365 : BitVec 1 := Scalar.xori v363 v364
  let c0_i32_200 : BitVec 32 := 0#32
  let v362 : BitVec 1 := Scalar.cmpi .ne v361 c0_i32_200
  let v366 : BitVec 1 := Scalar.andi v365 v362
  let v367 : BitVec 32 := Scalar.addi v361 v360
  let v368 : BitVec 32 := Scalar.select v366 v367 v361
  let c3_i32_209 : BitVec 32 := 3#32
  let c4_i32_203 : BitVec 32 := 4#32
  let c0_i32_204 : BitVec 32 := 0#32
  let v369 : BitVec 1 := Scalar.cmpi .eq c4_i32_203 c0_i32_204
  let c1_i32_205 : BitVec 32 := 1#32
  let v370 : BitVec 32 := Scalar.select v369 c1_i32_205 c4_i32_203
  let v371 : BitVec 32 := Scalar.remsi v329 v370
  let c0_i32_207 : BitVec 32 := 0#32
  let v373 : BitVec 1 := Scalar.cmpi .slt v371 c0_i32_207
  let c0_i32_208 : BitVec 32 := 0#32
  let v374 : BitVec 1 := Scalar.cmpi .slt v370 c0_i32_208
  let v375 : BitVec 1 := Scalar.xori v373 v374
  let c0_i32_206 : BitVec 32 := 0#32
  let v372 : BitVec 1 := Scalar.cmpi .ne v371 c0_i32_206
  let v376 : BitVec 1 := Scalar.andi v375 v372
  let v377 : BitVec 32 := Scalar.addi v371 v370
  let v378 : BitVec 32 := Scalar.select v376 v377 v371
  let v379 : BitVec 32 := Scalar.subi c3_i32_209 v378
  let v380 : BitVec 32 := Scalar.select v358 v368 v379
  let c2_i32_211 : BitVec 32 := 2#32
  let v382 : BitVec 32 := Scalar.muli v380 c2_i32_211
  let v383 : BitVec 32 := Scalar.addi v381 v382
  let c2_i32_212 : BitVec 32 := 2#32
  let c0_i32_213 : BitVec 32 := 0#32
  let v384 : BitVec 1 := Scalar.cmpi .eq c2_i32_212 c0_i32_213
  let c1_i32_214 : BitVec 32 := 1#32
  let v385 : BitVec 32 := Scalar.select v384 c1_i32_214 c2_i32_212
  let v386 : BitVec 32 := Scalar.remsi v380 v385
  let c0_i32_216 : BitVec 32 := 0#32
  let v388 : BitVec 1 := Scalar.cmpi .slt v386 c0_i32_216
  let c0_i32_217 : BitVec 32 := 0#32
  let v389 : BitVec 1 := Scalar.cmpi .slt v385 c0_i32_217
  let v390 : BitVec 1 := Scalar.xori v388 v389
  let c0_i32_215 : BitVec 32 := 0#32
  let v387 : BitVec 1 := Scalar.cmpi .ne v386 c0_i32_215
  let v391 : BitVec 1 := Scalar.andi v390 v387
  let v392 : BitVec 32 := Scalar.addi v386 v385
  let v393 : BitVec 32 := Scalar.select v391 v392 v386
  let c0_i32_218 : BitVec 32 := 0#32
  let v394 : BitVec 1 := Scalar.cmpi .eq v393 c0_i32_218
  let c1_i32_219 : BitVec 32 := 1#32
  let c0_i32_220 : BitVec 32 := 0#32
  let v395 : BitVec 32 := Scalar.select v394 c1_i32_219 c0_i32_220
  let v396 : BitVec 32 := Scalar.addi v383 v395
  let v398 : BitVec 32 := Scalar.select v397 v328 v396
  let c1_i32_2400 : BitVec 32 := 1#32
  let v2258 : BitVec 32 := Scalar.muli v398 c1_i32_2400
  let v2259 : BitVec 32 := Scalar.addi c0_i32_2401 v2258
  v2259.toNat
def k0_dev90 (d0 : Dev nD) : Nat :=
  let c0_i32_2409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_2408 : BitVec 32 := 1#32
  let v2260 : BitVec 32 := Scalar.muli v251 c1_i32_2408
  let v2261 : BitVec 32 := Scalar.addi c0_i32_2409 v2260
  v2261.toNat
def k0_dev91 (d0 : Dev nD) : Nat :=
  let c0_i32_2419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_48 : BitVec 32 := 0#32
  let v102 : BitVec 1 := Scalar.cmpi .eq v69 c0_i32_48
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32 : BitVec 32 := 4#32
  let v70 : BitVec 32 := Scalar.muli v19 c4_i32
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c16_i32 : BitVec 32 := 16#32
  let c3_i32_38 : BitVec 32 := 3#32
  let v85 : BitVec 32 := Scalar.subi c3_i32_38 v19
  let c4_i32_39 : BitVec 32 := 4#32
  let v86 : BitVec 32 := Scalar.muli v85 c4_i32_39
  let v87 : BitVec 32 := Scalar.addi c16_i32 v86
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v85 v89
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let c0_i32_43 : BitVec 32 := 0#32
  let v91 : BitVec 1 := Scalar.cmpi .ne v90 c0_i32_43
  let v95 : BitVec 1 := Scalar.andi v94 v91
  let v96 : BitVec 32 := Scalar.addi v90 v89
  let v97 : BitVec 32 := Scalar.select v95 v96 v90
  let c0_i32_46 : BitVec 32 := 0#32
  let v98 : BitVec 1 := Scalar.cmpi .eq v97 c0_i32_46
  let c3_i32_47 : BitVec 32 := 3#32
  let v99 : BitVec 32 := Scalar.subi c3_i32_47 v46
  let v100 : BitVec 32 := Scalar.select v98 v46 v99
  let v101 : BitVec 32 := Scalar.addi v87 v100
  let v103 : BitVec 32 := Scalar.select v102 v84 v101
  let c32_i32_49 : BitVec 32 := 32#32
  let v104 : BitVec 32 := Scalar.addi v103 c32_i32_49
  let c1_i32_50 : BitVec 32 := 1#32
  let v105 : BitVec 32 := Scalar.subi v104 c1_i32_50
  let c32_i32_51 : BitVec 32 := 32#32
  let c0_i32_52 : BitVec 32 := 0#32
  let v106 : BitVec 1 := Scalar.cmpi .eq c32_i32_51 c0_i32_52
  let c1_i32_53 : BitVec 32 := 1#32
  let v107 : BitVec 32 := Scalar.select v106 c1_i32_53 c32_i32_51
  let v108 : BitVec 32 := Scalar.remsi v105 v107
  let c0_i32_55 : BitVec 32 := 0#32
  let v110 : BitVec 1 := Scalar.cmpi .slt v108 c0_i32_55
  let c0_i32_56 : BitVec 32 := 0#32
  let v111 : BitVec 1 := Scalar.cmpi .slt v107 c0_i32_56
  let v112 : BitVec 1 := Scalar.xori v110 v111
  let c0_i32_54 : BitVec 32 := 0#32
  let v109 : BitVec 1 := Scalar.cmpi .ne v108 c0_i32_54
  let v113 : BitVec 1 := Scalar.andi v112 v109
  let v114 : BitVec 32 := Scalar.addi v108 v107
  let v115 : BitVec 32 := Scalar.select v113 v114 v108
  let c16_i32_135 : BitVec 32 := 16#32
  let v250 : BitVec 1 := Scalar.cmpi .slt v115 c16_i32_135
  let c0_i32_58 : BitVec 32 := 0#32
  let v117 : BitVec 1 := Scalar.cmpi .sgt v115 c0_i32_58
  let v118 : BitVec 32 := Scalar.extui v117
  let c0_i32_59 : BitVec 32 := 0#32
  let v119 : BitVec 1 := Scalar.cmpi .slt v115 c0_i32_59
  let v120 : BitVec 32 := Scalar.extui v119
  let v121 : BitVec 32 := Scalar.subi v118 v120
  let c4_i32_57 : BitVec 32 := 4#32
  let c0_i32_60 : BitVec 32 := 0#32
  let v122 : BitVec 1 := Scalar.cmpi .sgt c4_i32_57 c0_i32_60
  let v123 : BitVec 32 := Scalar.extui v122
  let c0_i32_61 : BitVec 32 := 0#32
  let v124 : BitVec 1 := Scalar.cmpi .slt c4_i32_57 c0_i32_61
  let v125 : BitVec 32 := Scalar.extui v124
  let v126 : BitVec 32 := Scalar.subi v123 v125
  let v127 : BitVec 1 := Scalar.cmpi .ne v121 v126
  let v128 : BitVec 32 := Scalar.remsi v115 c4_i32_57
  let c0_i32_62 : BitVec 32 := 0#32
  let v129 : BitVec 1 := Scalar.cmpi .ne v128 c0_i32_62
  let v130 : BitVec 1 := Scalar.andi v127 v129
  let v116 : BitVec 32 := Scalar.divsi v115 c4_i32_57
  let c1_i32_63 : BitVec 32 := 1#32
  let v131 : BitVec 32 := Scalar.subi v116 c1_i32_63
  let v132 : BitVec 32 := Scalar.select v130 v131 v116
  let c8_i32_84 : BitVec 32 := 8#32
  let v166 : BitVec 32 := Scalar.muli v132 c8_i32_84
  let c2_i32_64 : BitVec 32 := 2#32
  let c0_i32_65 : BitVec 32 := 0#32
  let v133 : BitVec 1 := Scalar.cmpi .eq c2_i32_64 c0_i32_65
  let c1_i32_66 : BitVec 32 := 1#32
  let v134 : BitVec 32 := Scalar.select v133 c1_i32_66 c2_i32_64
  let v135 : BitVec 32 := Scalar.remsi v132 v134
  let c0_i32_68 : BitVec 32 := 0#32
  let v137 : BitVec 1 := Scalar.cmpi .slt v135 c0_i32_68
  let c0_i32_69 : BitVec 32 := 0#32
  let v138 : BitVec 1 := Scalar.cmpi .slt v134 c0_i32_69
  let v139 : BitVec 1 := Scalar.xori v137 v138
  let c0_i32_67 : BitVec 32 := 0#32
  let v136 : BitVec 1 := Scalar.cmpi .ne v135 c0_i32_67
  let v140 : BitVec 1 := Scalar.andi v139 v136
  let v141 : BitVec 32 := Scalar.addi v135 v134
  let v142 : BitVec 32 := Scalar.select v140 v141 v135
  let c0_i32_70 : BitVec 32 := 0#32
  let v143 : BitVec 1 := Scalar.cmpi .eq v142 c0_i32_70
  let c4_i32_71 : BitVec 32 := 4#32
  let c0_i32_72 : BitVec 32 := 0#32
  let v144 : BitVec 1 := Scalar.cmpi .eq c4_i32_71 c0_i32_72
  let c1_i32_73 : BitVec 32 := 1#32
  let v145 : BitVec 32 := Scalar.select v144 c1_i32_73 c4_i32_71
  let v146 : BitVec 32 := Scalar.remsi v115 v145
  let c0_i32_75 : BitVec 32 := 0#32
  let v148 : BitVec 1 := Scalar.cmpi .slt v146 c0_i32_75
  let c0_i32_76 : BitVec 32 := 0#32
  let v149 : BitVec 1 := Scalar.cmpi .slt v145 c0_i32_76
  let v150 : BitVec 1 := Scalar.xori v148 v149
  let c0_i32_74 : BitVec 32 := 0#32
  let v147 : BitVec 1 := Scalar.cmpi .ne v146 c0_i32_74
  let v151 : BitVec 1 := Scalar.andi v150 v147
  let v152 : BitVec 32 := Scalar.addi v146 v145
  let v153 : BitVec 32 := Scalar.select v151 v152 v146
  let c3_i32_83 : BitVec 32 := 3#32
  let c4_i32_77 : BitVec 32 := 4#32
  let c0_i32_78 : BitVec 32 := 0#32
  let v154 : BitVec 1 := Scalar.cmpi .eq c4_i32_77 c0_i32_78
  let c1_i32_79 : BitVec 32 := 1#32
  let v155 : BitVec 32 := Scalar.select v154 c1_i32_79 c4_i32_77
  let v156 : BitVec 32 := Scalar.remsi v115 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let v164 : BitVec 32 := Scalar.subi c3_i32_83 v163
  let v165 : BitVec 32 := Scalar.select v143 v153 v164
  let c2_i32_85 : BitVec 32 := 2#32
  let v167 : BitVec 32 := Scalar.muli v165 c2_i32_85
  let v168 : BitVec 32 := Scalar.addi v166 v167
  let c2_i32_86 : BitVec 32 := 2#32
  let c0_i32_87 : BitVec 32 := 0#32
  let v169 : BitVec 1 := Scalar.cmpi .eq c2_i32_86 c0_i32_87
  let c1_i32_88 : BitVec 32 := 1#32
  let v170 : BitVec 32 := Scalar.select v169 c1_i32_88 c2_i32_86
  let v171 : BitVec 32 := Scalar.remsi v165 v170
  let c0_i32_90 : BitVec 32 := 0#32
  let v173 : BitVec 1 := Scalar.cmpi .slt v171 c0_i32_90
  let c0_i32_91 : BitVec 32 := 0#32
  let v174 : BitVec 1 := Scalar.cmpi .slt v170 c0_i32_91
  let v175 : BitVec 1 := Scalar.xori v173 v174
  let c0_i32_89 : BitVec 32 := 0#32
  let v172 : BitVec 1 := Scalar.cmpi .ne v171 c0_i32_89
  let v176 : BitVec 1 := Scalar.andi v175 v172
  let v177 : BitVec 32 := Scalar.addi v171 v170
  let v178 : BitVec 32 := Scalar.select v176 v177 v171
  let c0_i32_92 : BitVec 32 := 0#32
  let v179 : BitVec 1 := Scalar.cmpi .eq v178 c0_i32_92
  let c0_i32_93 : BitVec 32 := 0#32
  let c1_i32_94 : BitVec 32 := 1#32
  let v180 : BitVec 32 := Scalar.select v179 c0_i32_93 c1_i32_94
  let v181 : BitVec 32 := Scalar.addi v168 v180
  let c3_i32_103 : BitVec 32 := 3#32
  let c16_i32_95 : BitVec 32 := 16#32
  let v182 : BitVec 32 := Scalar.subi v115 c16_i32_95
  let c0_i32_97 : BitVec 32 := 0#32
  let v184 : BitVec 1 := Scalar.cmpi .sgt v182 c0_i32_97
  let v185 : BitVec 32 := Scalar.extui v184
  let c0_i32_98 : BitVec 32 := 0#32
  let v186 : BitVec 1 := Scalar.cmpi .slt v182 c0_i32_98
  let v187 : BitVec 32 := Scalar.extui v186
  let v188 : BitVec 32 := Scalar.subi v185 v187
  let c4_i32_96 : BitVec 32 := 4#32
  let c0_i32_99 : BitVec 32 := 0#32
  let v189 : BitVec 1 := Scalar.cmpi .sgt c4_i32_96 c0_i32_99
  let v190 : BitVec 32 := Scalar.extui v189
  let c0_i32_100 : BitVec 32 := 0#32
  let v191 : BitVec 1 := Scalar.cmpi .slt c4_i32_96 c0_i32_100
  let v192 : BitVec 32 := Scalar.extui v191
  let v193 : BitVec 32 := Scalar.subi v190 v192
  let v194 : BitVec 1 := Scalar.cmpi .ne v188 v193
  let v195 : BitVec 32 := Scalar.remsi v182 c4_i32_96
  let c0_i32_101 : BitVec 32 := 0#32
  let v196 : BitVec 1 := Scalar.cmpi .ne v195 c0_i32_101
  let v197 : BitVec 1 := Scalar.andi v194 v196
  let v183 : BitVec 32 := Scalar.divsi v182 c4_i32_96
  let c1_i32_102 : BitVec 32 := 1#32
  let v198 : BitVec 32 := Scalar.subi v183 c1_i32_102
  let v199 : BitVec 32 := Scalar.select v197 v198 v183
  let v200 : BitVec 32 := Scalar.subi c3_i32_103 v199
  let c8_i32_124 : BitVec 32 := 8#32
  let v234 : BitVec 32 := Scalar.muli v200 c8_i32_124
  let c2_i32_104 : BitVec 32 := 2#32
  let c0_i32_105 : BitVec 32 := 0#32
  let v201 : BitVec 1 := Scalar.cmpi .eq c2_i32_104 c0_i32_105
  let c1_i32_106 : BitVec 32 := 1#32
  let v202 : BitVec 32 := Scalar.select v201 c1_i32_106 c2_i32_104
  let v203 : BitVec 32 := Scalar.remsi v199 v202
  let c0_i32_108 : BitVec 32 := 0#32
  let v205 : BitVec 1 := Scalar.cmpi .slt v203 c0_i32_108
  let c0_i32_109 : BitVec 32 := 0#32
  let v206 : BitVec 1 := Scalar.cmpi .slt v202 c0_i32_109
  let v207 : BitVec 1 := Scalar.xori v205 v206
  let c0_i32_107 : BitVec 32 := 0#32
  let v204 : BitVec 1 := Scalar.cmpi .ne v203 c0_i32_107
  let v208 : BitVec 1 := Scalar.andi v207 v204
  let v209 : BitVec 32 := Scalar.addi v203 v202
  let v210 : BitVec 32 := Scalar.select v208 v209 v203
  let c0_i32_110 : BitVec 32 := 0#32
  let v211 : BitVec 1 := Scalar.cmpi .eq v210 c0_i32_110
  let c4_i32_111 : BitVec 32 := 4#32
  let c0_i32_112 : BitVec 32 := 0#32
  let v212 : BitVec 1 := Scalar.cmpi .eq c4_i32_111 c0_i32_112
  let c1_i32_113 : BitVec 32 := 1#32
  let v213 : BitVec 32 := Scalar.select v212 c1_i32_113 c4_i32_111
  let v214 : BitVec 32 := Scalar.remsi v182 v213
  let c0_i32_115 : BitVec 32 := 0#32
  let v216 : BitVec 1 := Scalar.cmpi .slt v214 c0_i32_115
  let c0_i32_116 : BitVec 32 := 0#32
  let v217 : BitVec 1 := Scalar.cmpi .slt v213 c0_i32_116
  let v218 : BitVec 1 := Scalar.xori v216 v217
  let c0_i32_114 : BitVec 32 := 0#32
  let v215 : BitVec 1 := Scalar.cmpi .ne v214 c0_i32_114
  let v219 : BitVec 1 := Scalar.andi v218 v215
  let v220 : BitVec 32 := Scalar.addi v214 v213
  let v221 : BitVec 32 := Scalar.select v219 v220 v214
  let c3_i32_123 : BitVec 32 := 3#32
  let c4_i32_117 : BitVec 32 := 4#32
  let c0_i32_118 : BitVec 32 := 0#32
  let v222 : BitVec 1 := Scalar.cmpi .eq c4_i32_117 c0_i32_118
  let c1_i32_119 : BitVec 32 := 1#32
  let v223 : BitVec 32 := Scalar.select v222 c1_i32_119 c4_i32_117
  let v224 : BitVec 32 := Scalar.remsi v182 v223
  let c0_i32_121 : BitVec 32 := 0#32
  let v226 : BitVec 1 := Scalar.cmpi .slt v224 c0_i32_121
  let c0_i32_122 : BitVec 32 := 0#32
  let v227 : BitVec 1 := Scalar.cmpi .slt v223 c0_i32_122
  let v228 : BitVec 1 := Scalar.xori v226 v227
  let c0_i32_120 : BitVec 32 := 0#32
  let v225 : BitVec 1 := Scalar.cmpi .ne v224 c0_i32_120
  let v229 : BitVec 1 := Scalar.andi v228 v225
  let v230 : BitVec 32 := Scalar.addi v224 v223
  let v231 : BitVec 32 := Scalar.select v229 v230 v224
  let v232 : BitVec 32 := Scalar.subi c3_i32_123 v231
  let v233 : BitVec 32 := Scalar.select v211 v221 v232
  let c2_i32_125 : BitVec 32 := 2#32
  let v235 : BitVec 32 := Scalar.muli v233 c2_i32_125
  let v236 : BitVec 32 := Scalar.addi v234 v235
  let c2_i32_126 : BitVec 32 := 2#32
  let c0_i32_127 : BitVec 32 := 0#32
  let v237 : BitVec 1 := Scalar.cmpi .eq c2_i32_126 c0_i32_127
  let c1_i32_128 : BitVec 32 := 1#32
  let v238 : BitVec 32 := Scalar.select v237 c1_i32_128 c2_i32_126
  let v239 : BitVec 32 := Scalar.remsi v233 v238
  let c0_i32_130 : BitVec 32 := 0#32
  let v241 : BitVec 1 := Scalar.cmpi .slt v239 c0_i32_130
  let c0_i32_131 : BitVec 32 := 0#32
  let v242 : BitVec 1 := Scalar.cmpi .slt v238 c0_i32_131
  let v243 : BitVec 1 := Scalar.xori v241 v242
  let c0_i32_129 : BitVec 32 := 0#32
  let v240 : BitVec 1 := Scalar.cmpi .ne v239 c0_i32_129
  let v244 : BitVec 1 := Scalar.andi v243 v240
  let v245 : BitVec 32 := Scalar.addi v239 v238
  let v246 : BitVec 32 := Scalar.select v244 v245 v239
  let c0_i32_132 : BitVec 32 := 0#32
  let v247 : BitVec 1 := Scalar.cmpi .eq v246 c0_i32_132
  let c1_i32_133 : BitVec 32 := 1#32
  let c0_i32_134 : BitVec 32 := 0#32
  let v248 : BitVec 32 := Scalar.select v247 c1_i32_133 c0_i32_134
  let v249 : BitVec 32 := Scalar.addi v236 v248
  let v251 : BitVec 32 := Scalar.select v250 v181 v249
  let c1_i32_2418 : BitVec 32 := 1#32
  let v2270 : BitVec 32 := Scalar.muli v251 c1_i32_2418
  let v2271 : BitVec 32 := Scalar.addi c0_i32_2419 v2270
  v2271.toNat
abbrev stage0_0 : Fin 1 → Memref sig .tc .vmem S4096x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Steps.lean ====
/- The kernel body as sixteen hops: each slot, semaphore, transfer, wait and partial product named once, for both
   directions of the ring and both operands, and the printed body shown to be the opening, the hops and the close. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Ring

open Cert.KernelIdeal Cert.KernelIdeal.Gen
open Idealize.ShloMosaic Idealize.ShloMosaic.TcCoe
open Idealize.SL Idealize.SL.Sem

variable {F : FTy → Type} [FloatOps F]

/-! ## Slots and semaphores

A direction is `false` (blocks travel to the left neighbour) or `true` (to the right one); an operand is `false` (`x`) or
`true` (`w`). Each direction has a three-slot buffer per operand: slots 0 and 1 take turns, slot 2 holds the device's own
block. -/

/-- The shape of one block of an operand. -/
abbrev shp (b : Bool) : Shape := match b with | false => S4096x128 | true => S128x8192

/-- A slot for `x` lies in its buffer. -/
theorem xin (s : Fin 3) : ∀ a, (![s.val, 0, 0] : Fin 3 → Nat) a + S1x4096x128.size a ≤ S3x4096x128.size a := by
  fin_cases s <;> decide
/-- A slot for `w_mat` lies in its buffer. -/
theorem win (s : Fin 3) : ∀ a, (![s.val, 0, 0] : Fin 3 → Nat) a + S1x128x8192.size a ≤ S3x128x8192.size a := by
  fin_cases s <;> decide
/-- A semaphore of a pair lies in the pair. -/
theorem sin (p : Fin 2) : ∀ a, (![p.val] : Fin 1 → Nat) a + S1.size a ≤ S2.size a := by
  fin_cases p <;> decide

/-- The buffer of a direction for `x`, and for `w`. -/
abbrev xbuf (d : Bool) : Memref sig .tc .vmem S3x4096x128 .fp8e5m2 :=
  match d with | false => Memref.whole cc0_scratch0 | true => Memref.whole cc0_scratch2
abbrev wbuf (d : Bool) : Memref sig .tc .vmem S3x128x8192 .fp8e5m2 :=
  match d with | false => Memref.whole cc0_scratch1 | true => Memref.whole cc0_scratch3

/-- The buffers for `x` are whole. -/
theorem xbuf_whole (d : Bool) : (xbuf d).IsWhole := by cases d <;> exact Memref.isWhole_whole _
/-- The buffers for `w_mat` are whole. -/
theorem wbuf_whole (d : Bool) : (wbuf d).IsWhole := by cases d <;> exact Memref.isWhole_whole _

abbrev xrect (s : Fin 3) : Rect S3x4096x128 := Rect.unit (s := S3x4096x128) ![s.val, 0, 0] S1x4096x128.size (xin s)
abbrev wrect (s : Fin 3) : Rect S3x128x8192 := Rect.unit (s := S3x128x8192) ![s.val, 0, 0] S1x128x8192.size (win s)

/-- One slot of a direction's buffer for an operand. -/
def slot (d b : Bool) (s : Fin 3) : Memref sig .tc .vmem (shp b) .fp8e5m2 :=
  match b with
  | false => ((xbuf d).slice (xrect s) (fun _ => rfl)).squeeze S4096x128 squeezes_S1x4096x128_S4096x128
  | true => ((wbuf d).slice (wrect s) (fun _ => rfl)).squeeze S128x8192 squeezes_S1x128x8192_S128x8192

/-- A slot for `x` is made of whole words. -/
theorem xwords (s : Fin 3) : (xrect s).WholeWords (EltTy.packing .fp8e5m2) := by
  fin_cases s
  · exact wordsfp8e5m2_S3x4096x128_S1x4096x128_0_0_0
  · exact wordsfp8e5m2_S3x4096x128_S1x4096x128_1_0_0
  · exact wordsfp8e5m2_S3x4096x128_S1x4096x128_2_0_0
/-- A slot for `w_mat` is made of whole words. -/
theorem wwords (s : Fin 3) : (wrect s).WholeWords (EltTy.packing .fp8e5m2) := by
  fin_cases s
  · exact wordsfp8e5m2_S3x128x8192_S1x128x8192_0_0_0
  · exact wordsfp8e5m2_S3x128x8192_S1x128x8192_1_0_0
  · exact wordsfp8e5m2_S3x128x8192_S1x128x8192_2_0_0

/-- A slot of either operand is made of whole words. -/
theorem slot_words (d b : Bool) (s : Fin 3) : (slot d b s).view.WordExact := by
  cases b
  · exact ((xbuf_whole d).wordExact_slice rfl _ (xwords s)).reshape _ _
  · exact ((wbuf_whole d).wordExact_slice rfl _ (wwords s)).reshape _ _

/-- The two semaphores a direction's copies of an operand complete on: at the sender, and at the receiver. -/
abbrev sendSems (d b : Bool) : DmaSems sig S2 :=
  match d, b with | false, false => cc0_scratch4 | false, true => cc0_scratch6 | true, false => cc0_scratch8 | true, true => cc0_scratch10
abbrev recvSems (d b : Bool) : DmaSems sig S2 :=
  match d, b with | false, false => cc0_scratch5 | false, true => cc0_scratch7 | true, false => cc0_scratch9 | true, true => cc0_scratch11
def sendS (d b : Bool) (p : Fin 2) : DmaSem sig := (((sendSems d b).slice (Rect.unit (s := S2) ![p.val] S1.size (sin p))).squeeze S_ squeezes_S1_S_).sem
def recvS (d b : Bool) (p : Fin 2) : DmaSem sig := (((recvSems d b).slice (Rect.unit (s := S2) ![p.val] S1.size (sin p))).squeeze S_ squeezes_S1_S_).sem
/-- The semaphore a direction's receiver gives its sender a freed slot on. -/
def credS (d : Bool) : Sem sig := match d with | false => cc0_scratch12.sem | true => cc0_scratch13.sem
/-- The runtime's barrier semaphore. -/
def barS : Sem sig := (SemArray.scalar (sig.barrier 0 rfl) : Sems sig S_).sem

/-! ## The steps -/

abbrev P (F : FTy → Type) (α : Type) : Type 1 := Prog (TpuEff nD τ sig (Elt F) Λ₀ .tc) α

/-- Start the copy of slot `s` into slot `r` of device `n`. -/
def sendP (d b : Bool) (s r : Fin 3) (p q : Fin 2) (n : Dev nD) : P F PUnit :=
  Prog.lift (.enqueueDma (slot d b s) (.remote (Dev.tc n) (slot d b r) (.dma (sendS d b p))) (.dma (recvS d b q))
    (slot_words d b s) (slot_words d b r) ⟨⟨rfl, Or.inl rfl⟩, trivial⟩)
/-- Wait until the copy has left; until the copy into this device has arrived. -/
def leftP (d b : Bool) (s r : Fin 3) (p : Fin 2) : P F PUnit :=
  Prog.lift (.waitDma2 (sendS d b p) (slot d b r) (slot d b s) (slot_words d b r) (slot_words d b s))
def hereP (d b : Bool) (s r : Fin 3) (q : Fin 2) : P F PUnit :=
  Prog.lift (.waitDma2 (recvS d b q) (slot d b s) (slot d b r) (slot_words d b s) (slot_words d b r))

def offs (s : Fin 3) (c : Dev nD) : Fin 3 → Nat := match s with | 0 => k0_off3 c | 1 => k0_off2 c | 2 => k0_off1 c
/-- A device's rows lie in the buffer for `x`. -/
theorem offs_in (s : Fin 3) (c : Dev nD) : ∀ a, offs s c a + S1x128x128.size a ≤ S3x4096x128.size a :=
  match s with | 0 => k0_off3_inb c | 1 => k0_off2_inb c | 2 => k0_off1_inb c
/-- The rows of slot `s` this device multiplies. -/
abbrev trect (s : Fin 3) (c : Dev nD) : Rect S3x4096x128 := Rect.unit (s := S3x4096x128) (offs s c) S1x128x128.size (offs_in s c)
abbrev orect : Rect S128x8192 := Rect.unit (s := S128x8192) ![0, 0] S128x8192.size inb_S128x8192_S128x8192_0_0
abbrev outM : Memref sig .tc .vmem S128x8192 .f32 := Memref.whole cc0_stg4_0

/-- Read the result block twice (the second read is the store's own), then write `f` of it. -/
def bumpP (f : Vec F S128x8192 .f32 → FVec F S128x8192 .f32) : P F PUnit := do
  let o ← Prog.lift (.load outM orect.toLoadRect (View.loadsAt_vmem h_S128x8192))
  let _ ← Prog.lift (.load outM orect.toLoadRect (View.loadsAt_vmem h_S128x8192))
  Prog.lift (.store outM orect (f o) Finset.univ (View.stores_vmem_bits_univ h_S128x8192 rfl) (.inl rfl))
/-- Add the product of slot `s`'s rows of `x` and slot `s` of `w` to the result block. -/
def accumP (d : Bool) (s : Fin 3) (c : Dev nD) : P F PUnit := do
  let x ← Prog.lift (.load (xbuf d) (trect s c).toLoadRect (View.loadsAt_vmem h_S1x128x128))
  let w ← Prog.lift (.load (wbuf d) (wrect s).toLoadRect (View.loadsAt_vmem h_S1x128x8192))
  bumpP (k0_pay11 x w)

/-- A step taken only when `b` says so. -/
def whenP (b : Bool) (p : P F PUnit) : P F PUnit := cond b p (.ret ⟨⟩)

/-- Wait for a freed slot; give one. -/
def takeP (d : Bool) : P F PUnit := semWaitWord (credS d) 1#32
def giveP (d : Bool) (n : Dev nD) : P F PUnit := semSignalWord n (credS d) 1#32

/-- The slot a hop sends from, the slot it sends into, and the semaphores it completes on. -/
def src (h : ℕ) : Fin 3 := match h with | 0 => 2 | h + 1 => ⟨(h + 1) % 2, by omega⟩
def dst (h : ℕ) : Fin 3 := ⟨(h + 1) % 2, by omega⟩
def sp (h : ℕ) : Fin 2 := ⟨h % 2, Nat.mod_lt _ (by decide)⟩
def rp (h : ℕ) : Fin 2 := ⟨(h + 1) % 2, Nat.mod_lt _ (by decide)⟩

/-- The number of hops of a direction. -/
def hops (d : Bool) : ℕ := match d with | false => 16 | true => 15

def startP (d : Bool) (h : ℕ) (n : Dev nD) : P F PUnit := do
  sendP d false (src h) (dst h) (sp h) (rp h) n
  sendP d true (src h) (dst h) (sp h) (rp h) n
def finishP (d : Bool) (h : ℕ) : P F PUnit := do
  leftP d false (src h) (dst h) (sp h)
  hereP d false (src h) (dst h) (rp h)
  leftP d true (src h) (dst h) (sp h)
  hereP d true (src h) (dst h) (rp h)

/-- Hop `h` of device `c`, whose left neighbour is `l` and right neighbour `r`. -/
def hopP (c l r : Dev nD) (h : ℕ) : P F PUnit := do
  whenP (decide (2 ≤ h)) (takeP false)
  whenP (decide (2 ≤ h ∧ h < 15)) (takeP true)
  startP false h l
  whenP (decide (h < 15)) (startP true h r)
  whenP (decide (1 ≤ h)) (do accumP false (src h) c; accumP true (src h) c)
  finishP false h
  whenP (decide (h < 15)) (finishP true h)
  whenP (decide (1 ≤ h ∧ h < 15)) (giveP false r)
  whenP (decide (1 ≤ h ∧ h < 14)) (giveP true l)

/-- The `n` hops from hop `h` on. -/
def hopsP (c l r : Dev nD) : ℕ → ℕ → P F PUnit
  | 0, _ => .ret ⟨⟩
  | n + 1, h => hopP c l r h >>= fun _ => hopsP c l r n (h + 1)

/-- Store a block into slot 2 of a direction's buffer (reading the slot first, as the store's printed form does). -/
def putX (d : Bool) (v : FVec F S1x4096x128 .fp8e5m2) : P F PUnit := do
  let _ ← Prog.lift (.load (xbuf d) (xrect 2).toLoadRect (View.loadsAt_vmem h_S1x4096x128))
  Prog.lift (.store (xbuf d) (xrect 2) v Finset.univ
    (View.stores_vmem h_S1x4096x128 ((xbuf_whole d).storeExact_slice rfl _ packedfp8e5m2_S3x4096x128_S1x4096x128_2_0_0) (fun _ => rfl)) (.inl rfl))
def putW (d : Bool) (v : FVec F S1x128x8192 .fp8e5m2) : P F PUnit := do
  let _ ← Prog.lift (.load (wbuf d) (wrect 2).toLoadRect (View.loadsAt_vmem h_S1x128x8192))
  Prog.lift (.store (wbuf d) (wrect 2) v Finset.univ
    (View.stores_vmem h_S1x128x8192 ((wbuf_whole d).storeExact_slice rfl _ packedfp8e5m2_S3x128x8192_S1x128x8192_2_0_0) (fun _ => rfl)) (.inl rfl))

abbrev xstgM : Memref sig .tc .vmem S4096x128 .fp8e5m2 := Memref.whole cc0_stg0_0
abbrev wstgM : Memref sig .tc .vmem S128x8192 .fp8e5m2 := Memref.whole cc0_stg1_0

/-- The handshake with both neighbours. -/
def greetP (l r : Dev nD) : P F PUnit := do
  semSignalWord l barS 1#32
  semSignalWord r barS 1#32
  semWaitWord barS 2#32

/-- Copy the device's own blocks into slot 2 of both directions, and multiply them. -/
def ownP (c : Dev nD) : P F PUnit := do
  let x ← Prog.lift (.load xstgM (Rect.unit (s := S4096x128) ![0, 0] S4096x128.size inb_S4096x128_S4096x128_0_0).toLoadRect (View.loadsAt_vmem h_S4096x128))
  let w ← Prog.lift (.load wstgM orect.toLoadRect (View.loadsAt_vmem h_S128x8192))
  putX false (k0_pay4 x)
  putW false (k0_pay5 (k0_pay3 w))
  putX true (k0_pay6 (k0_pay2 x))
  putW true (k0_pay7 (k0_pay3 w))
  let xt ← Prog.lift (.load (xbuf false) (trect 2 c).toLoadRect (View.loadsAt_vmem h_S1x128x128))
  let wt ← Prog.lift (.load (wbuf false) (wrect 2).toLoadRect (View.loadsAt_vmem h_S1x128x8192))
  let _ ← Prog.lift (.load outM orect.toLoadRect (View.loadsAt_vmem h_S128x8192))
  Prog.lift (.store outM orect (k0_pay8 xt wt) Finset.univ (View.stores_vmem_bits_univ h_S128x8192 rfl) (.inl rfl))

abbrev sxM : Memref sig .tc .smem S1 .f32 := Memref.whole cc0_stg2_0
abbrev swM : Memref sig .tc .smem S1 .f32 := Memref.whole cc0_stg3_0

/-- Scale the result block and apply the activation. -/
def closeP : P F PUnit := do
  let a ← smemLoad sxM (Rect.unit (s := S1) ![0] S1.size inb_S1_S1_0) numel1_S1 rfl
  let b ← smemLoad swM (Rect.unit (s := S1) ![0] S1.size inb_S1_S1_0) numel1_S1 rfl
  bumpP (k0_pay1 (k0_pay49 a b))

/-- The body of device `c` with neighbours `l` and `r`. -/
def devP (c l r : Dev nD) : P F PUnit := do
  greetP l r
  ownP c
  hopsP c l r 16 0
  accumP false 0 c
  closeP

/-- The left and the right neighbour, as the kernel computes them. -/
def leftOf (c : Dev nD) : Dev nD := ⟨k0_dev1 c, k0_dev1_lt c⟩
def rightOf (c : Dev nD) : Dev nD := ⟨k0_dev2 c, k0_dev2_lt c⟩

set_option maxRecDepth 65536 in
set_option maxHeartbeats 4000000 in
/-- The printed body is the sequence of named steps. -/
theorem body_eq : (cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8 cc0_scratch9 cc0_scratch10 cc0_scratch11
    cc0_scratch12 cc0_scratch13 : P F PUnit)
    = Prog.lift .deviceId >>= fun c => devP c (leftOf c) (rightOf c) := by
  rfl

end Cert.Ring

end
-- ==== Proof.Protocol.lean ====
/- The protocol of the ring: its neighbours, its semaphore cells, what each slot holds, the schedule of rounds each cell
   runs through, what every device owes, and the order in which waits are allowed. -/
module

public import proofs.«01_k».proof.Proof.Steps

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources: the pipeline's rounds and the ring's -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

-- the memory every device starts from
variable (m : (ℓ : Loc nD τ sig) → Buf (Elt F) ℓ)

/-! ## The ring of devices -/

/-- Where a direction's blocks go, and where they come from. -/
def nxt (d : Bool) (c : Dev nD) : Dev nD := match d with | false => leftOf c | true => rightOf c
def prv (d : Bool) (c : Dev nD) : Dev nD := match d with | false => rightOf c | true => leftOf c

/-- The left neighbour of the right neighbour is the device itself. -/
theorem left_right : ∀ c : Dev nD, leftOf (rightOf c) = c := by decide +kernel
/-- The right neighbour of the left neighbour is the device itself. -/
theorem right_left : ∀ c : Dev nD, rightOf (leftOf c) = c := by decide +kernel

/-- The next device of the previous one is the device itself. -/
theorem nxt_prv (d : Bool) (c : Dev nD) : nxt d (prv d c) = c := by
  cases d
  · exact left_right c
  · exact right_left c
/-- The previous device of the next one is the device itself. -/
theorem prv_nxt (d : Bool) (c : Dev nD) : prv d (nxt d c) = c := by
  cases d
  · exact right_left c
  · exact left_right c

/-- The device whose block is at `c` at the start of hop `h`. -/
def org (d : Bool) (h : ℕ) (c : Dev nD) : Dev nD := (prv d)^[h] c

/-- A hop later the block is at the next device. -/
theorem org_nxt (d : Bool) (h : ℕ) (c : Dev nD) : org d (h + 1) (nxt d c) = org d h c := by
  unfold org; rw [Function.iterate_succ_apply, prv_nxt]

/-! ## The cells -/

/-- A device's semaphores: the barrier, a direction's freed-slot semaphore, and the two semaphores of a direction and an
    operand, at the sender and at the receiver. -/
inductive Cel where
  | bar
  | cr (d : Bool)
  | sn (d b : Bool) (p : Fin 2)
  | rv (d b : Bool) (q : Fin 2)
deriving DecidableEq

/-- The cells as a sum, to count them. -/
def celSum : (Unit ⊕ Bool) ⊕ (Bool × Bool × Fin 2) ⊕ (Bool × Bool × Fin 2) ≃ Cel where
  toFun
    | .inl (.inl _) => .bar
    | .inl (.inr d) => .cr d
    | .inr (.inl (d, b, p)) => .sn d b p
    | .inr (.inr (d, b, q)) => .rv d b q
  invFun
    | .bar => .inl (.inl ())
    | .cr d => .inl (.inr d)
    | .sn d b p => .inr (.inl (d, b, p))
    | .rv d b q => .inr (.inr (d, b, q))
  left_inv := by rintro ((_ | _) | _ | _) <;> rfl
  right_inv := by rintro (_ | _ | _ | _) <;> rfl
instance : Fintype Cel := Fintype.ofEquiv _ celSum

def csem : Cel → SemLoc sig
  | .bar => .reg barS
  | .cr d => .reg (credS d)
  | .sn d b p => .dma (sendS d b p)
  | .rv d b q => .dma (recvS d b q)

/-- Different cells are different semaphores. -/
theorem csem_injective : Function.Injective csem := by
  have h : ∀ k k' : Cel, csem k = csem k' → k = k' := by decide +kernel
  exact fun k k' => h k k'

open Classical in
/-- The semaphore's name, if it is one of those. -/
def dec (s : SemLoc sig) : Option Cel := if h : ∃ k, csem k = s then some h.choose else none

/-- A cell's semaphore has that cell as its name. -/
theorem dec_csem (k : Cel) : dec (csem k) = some k := by
  unfold dec
  have h : ∃ k', csem k' = csem k := ⟨k, rfl⟩
  rw [dif_pos h]
  exact congrArg some (csem_injective h.choose_spec)

/-- Cell `k` of device `c`. -/
def cell (c : Dev nD) (k : Cel) : GSem nD τ sig := ((c : Thread nD τ), csem k)

/-- Different devices or names give different cells. -/
theorem cell_injective : Function.Injective (fun x : Dev nD × Cel => cell x.1 x.2) := by
  rintro ⟨c, k⟩ ⟨c', k'⟩ h
  have h1 : c = c' := congrArg (fun g : GSem nD τ sig => g.1.1) h
  have h2 : k = k' := csem_injective (congrArg Prod.snd h)
  rw [h1, h2]

/-! ## Slots -/

/-- The block of the inputs a device starts with. -/
def blkX (o : Dev nD) : FVec F S4096x128 .fp8e5m2 := (win0_0.blk (0 : Fin 1)).view.read (Elt F) (m ((o : Thread nD τ).loc main_arg0))
def blkW (o : Dev nD) : FVec F S128x8192 .fp8e5m2 := (win0_1.blk (0 : Fin 1)).view.read (Elt F) (m ((o : Thread nD τ).loc main_arg1))
def blk (b : Bool) (o : Dev nD) : (shp b).Idx → Elt F .fp8e5m2 := match b with | false => blkX m o | true => blkW m o

/-- A slot of device `c` holding the block of device `o`, at share `q`; a slot holding anything. -/
def holds (d b : Bool) (s : Fin 3) (q : PosShare TreeShare) (c o : Dev nD) : sProp 𝕄 :=
  (slot d b s).view.loc (c : Thread nD τ) ↦[(slot d b s).view.set]{q}
    ((slot d b s).view.write (Elt F) (m ((slot d b s).view.loc (c : Thread nD τ))) (blk m b o) Finset.univ)
def anything (d b : Bool) (s : Fin 3) (c : Dev nD) : sProp 𝕄 :=
  iprop(∃ f : Buf (Elt F) ((slot d b s).view.loc (c : Thread nD τ)), (slot d b s).view.loc (c : Thread nD τ) ↦[(slot d b s).view.set]{fullShare} f)

instance holds_storable (d b : Bool) (s : Fin 3) (q : PosShare TreeShare) (c o : Dev nD) : BI.Storable (upEmb : UEmb _ 𝕄) (holds m d b s q c o) := by
  unfold holds; infer_instance
instance anything_storable (d b : Bool) (s : Fin 3) (c : Dev nD) : BI.Storable (upEmb : UEmb _ 𝕄) (anything (F := F) d b s c) := by
  unfold anything; infer_instance

/-- Contents that read the block are the block. -/
theorem holds_of_read (d b : Bool) (s : Fin 3) (q : PosShare TreeShare) (c o : Dev nD) (f : Buf (Elt F) ((slot d b s).view.loc (c : Thread nD τ)))
    (h : (slot d b s).view.read (Elt F) f = blk m b o) :
    ((slot d b s).view.loc (c : Thread nD τ) ↦[(slot d b s).view.set]{q} f : sProp 𝕄) = holds m d b s q c o := by
  unfold holds
  refine pointsTo_congr fun i hi => ?_
  obtain ⟨z, -, rfl⟩ := Finset.mem_map.mp hi
  rw [View.write_emb_of_mem _ _ (Finset.mem_univ _), ← h, View.read_apply, cast_cast, cast_eq]

/-- A slot that holds a block holds something. -/
theorem holds_anything (d b : Bool) (s : Fin 3) (c o : Dev nD) : (holds m d b s fullShare c o : sProp 𝕄) ⊢ anything d b s c := by
  unfold holds anything
  iintro H
  iexists _
  iexact H

/-- A slot at two half shares. -/
theorem holds_halves (d b : Bool) (s : Fin 3) (c o : Dev nD) :
    (holds m d b s fullShare c o : sProp 𝕄) ⊣⊢ iprop(holds m d b s fullShare.left c o ∗ holds m d b s fullShare.right c o) := by
  unfold holds
  exact pointsTo_share (PosShare.mem_left_op_right fullShare)

/-! ## The schedule -/

/-- What a copy of an operand is worth to its semaphores. -/
def amt (b : Bool) : ℕ := (slot false b 0).view.dmaCredit
/-- A copy credits its semaphores by something. -/
theorem amt_pos (b : Bool) : 0 < amt b := by
  unfold amt; cases b <;> exact View.dmaCredit_pos _ (by decide)
/-- What a copy into a slot credits depends on the operand alone. -/
theorem amt_eq (d b : Bool) (s : Fin 3) : (slot d b s).view.dmaCredit = amt b := by
  unfold amt; cases d <;> cases b <;> rfl

/-- Both operands' share of something. -/
def both (Φ : Bool → sProp 𝕄) : sProp 𝕄 := iprop(Φ false ∗ Φ true)

/-- What a device needs of the one it sends to at hop `h`: the slot it will fill, free, and the round it is filled in. -/
def land (d : Bool) (c : Dev nD) (h : ℕ) : sProp 𝕄 :=
  both fun b => iprop(anything d b (dst h) (nxt d c) ∗ reached ER (cell (nxt d c) (.rv d b (rp h))) (h / 2))

instance land_storable (d : Bool) (c : Dev nD) (h : ℕ) : BI.Storable (upEmb : UEmb _ 𝕄) (land (F := F) d c h) := by
  unfold land both; infer_instance

/-- What an arriving copy of hop `h` brings: the slot filled with the sender's block, and how far the sender has taken
    freed slots. -/
def arrive (d b : Bool) (c : Dev nD) (h : ℕ) : sProp 𝕄 :=
  iprop(holds m d b (dst h) fullShare c (org d (h + 1) c) ∗ reached ER (cell (prv d c) (.cr d)) (h - 1))

instance arrive_storable (d b : Bool) (c : Dev nD) (h : ℕ) : BI.Storable (upEmb : UEmb _ 𝕄) (arrive m d b c h) := by
  unfold arrive; infer_instance

def duties' : Option Cel → ℕ → Finset Bool
  | some .bar, r => if r = 0 then Finset.univ else ∅
  | some (.cr d), r => if r + 2 < hops d then {false} else ∅
  | some (.sn d _ p), r => if 2 * r + p.val < hops d then {false} else ∅
  | some (.rv d _ q), r => if 2 * r + (1 - q.val) < hops d then {false} else ∅
  | none, _ => ∅
def amount' : Option Cel → ℕ
  | some (.sn _ b _) => amt b
  | some (.rv _ b _) => amt b
  | _ => 1
def payload' (c : Dev nD) : Option Cel → ℕ → Bool → sProp 𝕄
  | some .bar, _, d => iprop(land d c 0 ∗ land d c 1)
  | some (.cr d), r, _ => land d c (r + 2)
  | some (.sn d b p), r, _ => holds m d b (src (2 * r + p.val)) fullShare.left c (org d (2 * r + p.val) c)
  | some (.rv d b q), r, _ => arrive m d b c (2 * r + (1 - q.val))
  | none, _, _ => iprop(emp)

/-- The rounds: a barrier cell has one round of two units, one from each neighbour; a freed-slot cell one round for each hop
    from the third on; the two cells of a copy one round for every second hop. -/
def sched : Rounds.Schedule (GSem nD τ sig) Bool 𝕄 where
  duties g r := duties' (dec g.2) r
  unitless _ := False
  amount g _ _ := amount' (dec g.2)
  payload g r d := payload' m g.1.1 (dec g.2) r d
  amount_pos g _ _ _ := by
    rcases dec g.2 with _ | (_ | _ | _ | _)
    · exact Nat.one_pos
    · exact Nat.one_pos
    · exact Nat.one_pos
    · exact amt_pos _
    · exact amt_pos _

instance sched_storable (g : GSem nD τ sig) (r : ℕ) (d : Bool) : BI.Storable (upEmb : UEmb _ 𝕄) ((sched m).payload g r d) := by
  show BI.Storable upEmb (payload' m g.1.1 (dec g.2) r d)
  rcases dec g.2 with _ | (_ | _ | _ | _) <;> unfold payload' <;> infer_instance

/-- What is due in a round of a cell, by the cell's name. -/
theorem duties_cell (c : Dev nD) (k : Cel) (r : ℕ) : (sched m).duties (cell c k) r = duties' (some k) r := by
  show duties' (dec (csem k)) r = _; rw [dec_csem]
/-- The amount of a duty on a cell, by the cell's name. -/
theorem amount_cell (c : Dev nD) (k : Cel) (r : ℕ) (d : Bool) : (sched m).amount (cell c k) r d = amount' (some k) := by
  show amount' (dec (csem k)) = _; rw [dec_csem]
/-- What a duty on a cell hands over, by the cell's name. -/
theorem payload_cell (c : Dev nD) (k : Cel) (r : ℕ) (d : Bool) : (sched m).payload (cell c k) r d = payload' m c (some k) r d := by
  show payload' m c (dec (csem k)) r d = _; rw [dec_csem]

/-- A round with the one duty. -/
theorem expect_single (c : Dev nD) (k : Cel) (r : ℕ) (h : duties' (some k) r = {false}) : (sched m).expect (cell c k) r = amount' (some k) := by
  unfold Schedule.expect Schedule.amountOf
  rw [duties_cell, h, Finset.sum_singleton, amount_cell]
/-- What a round with the one duty hands over. -/
theorem rest_single (c : Dev nD) (k : Cel) (r : ℕ) (h : duties' (some k) r = {false}) :
    (bigSep ((sched m).duties (cell c k) r \ ∅) (fun d => (sched m).payload (cell c k) r d) : sProp 𝕄) = payload' m c (some k) r false := by
  rw [Finset.sdiff_empty, duties_cell, h, bigSep_singleton, payload_cell]
/-- The barrier waits for two units. -/
theorem expect_bar (c : Dev nD) : (sched m).expect (cell c .bar) 0 = 2 := by
  unfold Schedule.expect Schedule.amountOf
  rw [duties_cell, Finset.sum_congr rfl fun d _ => amount_cell m c .bar 0 d]
  rfl
/-- The barrier hands over two slots at each neighbour. -/
theorem rest_bar (c : Dev nD) :
    (bigSep ((sched m).duties (cell c .bar) 0 \ ∅) (fun d => (sched m).payload (cell c .bar) 0 d) : sProp 𝕄)
      = iprop((land false c 0 ∗ land false c 1) ∗ (land true c 0 ∗ land true c 1)) := by
  rw [Finset.sdiff_empty, duties_cell]
  show bigSep Finset.univ _ = _
  rw [bigSep_univ_eq_bigSepL [false, true] (by decide) (by decide), bigSepL_cons_cons, bigSepL_singleton, payload_cell, payload_cell]
  rfl

/-- Hop `h`'s round of each cell. -/
theorem duties_sn (d b : Bool) (h : ℕ) (hh : h < hops d) : duties' (some (.sn d b (sp h))) (h / 2) = {false} := by
  unfold duties' sp; exact if_pos (by show 2 * (h / 2) + h % 2 < hops d; omega)
/-- Hop `h`'s round of the receive cell has its one duty. -/
theorem duties_rv (d b : Bool) (h : ℕ) (hh : h < hops d) : duties' (some (.rv d b (rp h))) (h / 2) = {false} := by
  unfold duties' rp; exact if_pos (by show 2 * (h / 2) + (1 - (h + 1) % 2) < hops d; omega)
/-- A round of the freed-slot cell has its one duty. -/
theorem duties_cr (d : Bool) (r : ℕ) (hh : r + 2 < hops d) : duties' (some (.cr d)) r = {false} := by
  unfold duties'; exact if_pos hh
/-- Hop `h`'s round of the send cell hands back the lent half of the source. -/
theorem payload_sn (d b : Bool) (h : ℕ) (c : Dev nD) :
    (payload' m c (some (.sn d b (sp h))) (h / 2) false : sProp 𝕄) = holds m d b (src h) fullShare.left c (org d h c) := by
  have e : 2 * (h / 2) + (sp h).val = h := by show 2 * (h / 2) + h % 2 = h; omega
  unfold payload'; simp only [e]
/-- Hop `h`'s round of the receive cell hands over the block that arrived. -/
theorem payload_rv (d b : Bool) (h : ℕ) (c : Dev nD) :
    (payload' m c (some (.rv d b (rp h))) (h / 2) false : sProp 𝕄) = arrive m d b c h := by
  have e : 2 * (h / 2) + (1 - (rp h).val) = h := by show 2 * (h / 2) + (1 - (h + 1) % 2) = h; omega
  unfold payload'; simp only [e]

/-! ## What is owed -/

/-- One thing a device owes: to which cell of which neighbour, for which hop. -/
structure Debt where
  way : Bool
  cel : Cel
  ix : ℕ
deriving DecidableEq

/-- The device a debt of device `c` is owed to. -/
def Debt.to (x : Debt) (c : Dev nD) : Dev nD := nxt x.way c
def Debt.due (x : Debt) (c : Dev nD) : CellTallies nD τ sig ℕ := tallyAt (cell (x.to c) x.cel) x.ix (amount' (some x.cel))
def Debt.own (x : Debt) (c : Dev nD) : CellTallies nD τ sig ℕ := tallyAt (cell c x.cel) x.ix (amount' (some x.cel))

def owed (c : Dev nD) : List Debt → CellTallies nD τ sig ℕ
  | [] => 0
  | x :: l => owed c l + x.due c
def owns' (c : Dev nD) : List Debt → CellTallies nD τ sig ℕ
  | [] => 0
  | x :: l => owns' c l + x.own c

/-- A hop's debts, in the order they are paid: the arrival of both operands' copies, then the slot freed for the sender. -/
def dSend (d : Bool) (h : ℕ) : List Debt := [⟨d, .rv d false (rp h), h⟩, ⟨d, .rv d true (rp h), h⟩]
def dFree (d : Bool) (h : ℕ) : List Debt := [⟨!d, .cr d, h - 1⟩]
def dIf (b : Bool) (l : List Debt) : List Debt := if b = true then l else []
def dHop (h : ℕ) : List Debt :=
  dSend false h ++ (dIf (decide (h < 15)) (dSend true h) ++ (dIf (decide (1 ≤ h ∧ h < 15)) (dFree false h) ++ dIf (decide (1 ≤ h ∧ h < 14)) (dFree true h)))
def dRest : ℕ → ℕ → List Debt
  | 0, _ => []
  | n + 1, h => dHop h ++ dRest n (h + 1)
def dAll : List Debt := ⟨false, .bar, 0⟩ :: ⟨true, .bar, 0⟩ :: dRest 16 0

/-! ## The order of waits -/

def L (g : GSem nD τ sig) : Finset ℕ := if g.1.2 = .tc then Finset.range 32 else ∅
def rank : Option Cel → ℕ → ℕ
  | some .bar, _ => 1
  | some (.cr _), i => 2 * i + 5
  | some (.rv _ _ _), i => 2 * i + 2
  | _, _ => 0
def lv (g : GSem nD τ sig) (i : ℕ) : ℕ := rank (dec g.2) i

/-- Every debt of the list is for an index below 32 and ranks above `n`. -/
def Above (n : ℕ) (l : List Debt) : Prop := ∀ x ∈ l, x.ix < 32 ∧ n < rank (some x.cel) x.ix

/-- What a list of debts owes comes from one of them. -/
theorem owed_pos {c : Dev nD} {l : List Debt} {g : GSem nD τ sig} {i : ℕ} (h : 0 < owed c l g i) :
    ∃ x ∈ l, g = cell (x.to c) x.cel ∧ i = x.ix := by
  induction l with
  | nil => exact absurd h (Nat.lt_irrefl 0)
  | cons x l ih =>
    unfold owed at h
    rw [Pi.add_apply, Finsupp.add_apply] at h
    by_cases h0 : 0 < owed c l g i
    · obtain ⟨y, hy, e⟩ := ih h0; exact ⟨y, List.mem_cons_of_mem _ hy, e⟩
    · have h1 : 0 < x.due c g i := by omega
      unfold Debt.due at h1
      rw [tallyAt_apply] at h1
      by_cases h2 : g = cell (x.to c) x.cel ∧ i = x.ix
      · exact ⟨x, List.mem_cons_self, h2⟩
      · rw [if_neg h2] at h1; exact absurd h1 (Nat.lt_irrefl 0)

/-- A wait is allowed if all that is still owed ranks above it. -/
theorem mayWait (c : Dev nD) (s : SemLoc sig) (i : ℕ) (hi : i < 32) (l : List Debt) (h : Above (rank (dec s) i) l) :
    (levAts L lv : sProp 𝕄) ⊢ MayWait (c : Thread nD τ) s i (owed c l) :=
  MayOwe.of_cut (L := L) (lev := lv) (rank (dec s) i)
    (fun p hp => by rw [Finset.mem_singleton.mp hp]; exact Finset.mem_range.mpr hi)
    (fun g u hg => by obtain ⟨x, hx, rfl, rfl⟩ := owed_pos hg; exact Finset.mem_range.mpr (h x hx).1)
    (fun p hp => by rw [Finset.mem_singleton.mp hp]; exact le_rfl)
    (fun g u hg => by
      obtain ⟨x, hx, rfl, rfl⟩ := owed_pos hg
      show _ < rank (dec (csem x.cel)) x.ix
      rw [dec_csem]; exact (h x hx).2)

/-- Above a rank is above a lower one. -/
theorem Above.mono {n n' : ℕ} {l : List Debt} (h : Above n l) (hn : n' ≤ n) : Above n' l := fun x hx => ⟨(h x hx).1, lt_of_le_of_lt hn (h x hx).2⟩
/-- Two lists that rank above `n`, one after the other. -/
theorem Above.append {n : ℕ} {l l' : List Debt} (h : Above n l) (h' : Above n l') : Above n (l ++ l') := fun x hx =>
  (List.mem_append.mp hx).elim (h x) (h' x)
/-- A list under a condition. -/
theorem Above.dIf {n : ℕ} {b : Bool} {l : List Debt} (h : b = true → Above n l) : Above n (dIf b l) := by
  unfold Ring.dIf; split
  · exact h ‹_›
  · exact fun x hx => absurd hx List.not_mem_nil

/-- The arrivals of hop `h` rank above the waits before them. -/
theorem above_send (d : Bool) (h n : ℕ) (hh : h < 32) (hn : n < 2 * h + 2) : Above n (dSend d h) := by
  intro x hx
  unfold dSend at hx
  rcases List.mem_cons.mp hx with rfl | hx
  · exact ⟨hh, hn⟩
  · obtain rfl := List.mem_singleton.mp hx; exact ⟨hh, hn⟩
/-- The slots freed in hop `h` rank above the arrivals of the hop. -/
theorem above_free (d : Bool) (h n : ℕ) (hh : h < 32) (h1 : 1 ≤ h) (hn : n < 2 * h + 3) : Above n (dFree d h) := by
  intro x hx
  unfold dFree at hx
  obtain rfl := List.mem_singleton.mp hx
  exact ⟨by show h - 1 < 32; omega, by show n < 2 * (h - 1) + 5; omega⟩
/-- What is left of a hop once its copies have started, and the hops after it. -/
theorem above_frees (h n : ℕ) (hh : h < 32) (hn : n < 2 * h + 3) :
    Above n (dIf (decide (1 ≤ h ∧ h < 15)) (dFree false h) ++ dIf (decide (1 ≤ h ∧ h < 14)) (dFree true h)) :=
  .append (.dIf fun e => above_free _ _ _ hh (of_decide_eq_true e).1 hn) (.dIf fun e => above_free _ _ _ hh (of_decide_eq_true e).1 hn)
/-- All debts of hop `h` rank above the waits before the hop. -/
theorem above_hop (h n : ℕ) (hh : h < 32) (hn : n < 2 * h + 2) : Above n (dHop h) :=
  .append (above_send _ _ _ hh hn) (.append (.dIf fun _ => above_send _ _ _ hh hn) (above_frees h n hh (by omega)))
/-- All debts from hop `h` on rank above the waits before the hop. -/
theorem above_rest (k : ℕ) : ∀ h n : ℕ, h + k ≤ 16 → n < 2 * h + 2 → Above n (dRest k h) := by
  induction k with
  | zero => exact fun _ _ _ _ x hx => absurd hx List.not_mem_nil
  | succ k ih => exact fun h n hk hn => .append (above_hop h n (by omega) hn) (ih (h + 1) n (by omega) (by omega))

end Cert.Ring

end
-- ==== Proof.Slots.lean ====
/- What the loads and stores of the body see of a slot: the rows of `x` a device multiplies, the whole of `w`, the device's
   own block put in place; and a whole buffer as its three slots. -/
module

public import proofs.«01_k».proof.Proof.Protocol
public import Idealize.ShloMosaic.Lib.ValueLayout
public import Idealize.ShloMosaic.Lib.Ring

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig ℕ (Elt F) ℕ UU ℕ

variable (m : (ℓ : Loc nD τ sig) → Buf (Elt F) ℓ)

/-! ## Reading a slot through the buffer it is a part of -/

section Through

variable {s s' : Shape} {e : EltTy} {sp : Space}

/-- A box of the buffer whose every index is one of the slot's. -/
theorem box_subset (M : Memref sig .tc sp s e) (r : Rect s) (hr : ∀ a, r.stride a = 1) (hq : r.shape.Squeezes s') (B : LoadRect s)
    (g : B.shape.Idx → s'.Idx) (hg : ∀ z, B.idx z = r.emb (Shape.reshapeEquiv hq.numel_eq (g z))) :
    M.view.setOn B.set ⊆ ((M.slice r hr).squeeze s' hq).view.set := by
  intro i hi
  obtain ⟨x, hx, rfl⟩ := Finset.mem_map.mp hi
  obtain ⟨z, rfl⟩ := LoadRect.exists_idx_of_mem B hx
  rw [hg]
  exact Finset.mem_map.mpr ⟨g z, Finset.mem_univ _, rfl⟩

/-- A load through a part of a buffer reads the slot at the matching indices. -/
theorem box_read (M : Memref sig .tc sp s e) (r : Rect s) (hr : ∀ a, r.stride a = 1) (hq : r.shape.Squeezes s') (B : LoadRect s)
    (g : B.shape.Idx → s'.Idx) (hg : ∀ z, B.idx z = r.emb (Shape.reshapeEquiv hq.numel_eq (g z))) (f : M.view.ty.Contents (Elt F)) :
    M.view.readAt (Elt F) B f = fun z => ((M.slice r hr).squeeze s' hq).view.read (Elt F) f (g z) := by
  funext z
  rw [View.readAt_apply, hg]
  rfl

/-- A store of the slot's own rectangle. -/
theorem store_subset (M : Memref sig .tc sp s e) (r : Rect s) (hr : ∀ a, r.stride a = 1) (hq : r.shape.Squeezes s') :
    (M.access r).setOn Finset.univ ⊆ ((M.slice r hr).squeeze s' hq).view.set := by
  rw [View.setOn_univ]
  exact subset_of_eq (View.set_reshape (v := M.view.slice r) hq.numel_eq).symm

/-- What a slot reads after a store of the whole slot. -/
theorem store_read (M : Memref sig .tc sp s e) (r : Rect s) (hr : ∀ a, r.stride a = 1) (hq : r.shape.Squeezes s')
    (f : M.view.ty.Contents (Elt F)) (w : r.shape.Idx → Elt F e) :
    ((M.slice r hr).squeeze s' hq).view.read (Elt F) ((M.access r).write (Elt F) f w Finset.univ)
      = fun y => w (Shape.reshapeEquiv hq.numel_eq y) := by
  have h : (M.access r).read (Elt F) ((M.access r).write (Elt F) f w Finset.univ) = w := View.read_write_univ _ _
  funext y
  exact congrFun h (Shape.reshapeEquiv hq.numel_eq y)

end Through

/-! ## The rows of `x` device `c` multiplies, and the whole of `w` -/

/-- A device's rows lie within the block of `x`. -/
theorem row_lt (c : Dev nD) (i : Fin 128) : 128 * c.val + i.val < 4096 := by
  have hc : c.val < 32 := c.isLt
  have := i.isLt
  omega
def rowIx (c : Dev nD) (z : S1x128x128.Idx) : S4096x128.Idx := ix2 (⟨128 * c.val + (z 1).val, row_lt c (z 1)⟩ : Fin 4096) (z 2)
def allIx (z : S1x128x8192.Idx) : S128x8192.Idx := ix2 (z 1) (z 2)
def tileOf (c : Dev nD) (X : FVec F S4096x128 .fp8e5m2) : Vec F S1x128x128 .fp8e5m2 := fun z => X (rowIx c z)
def fullOf (W : FVec F S128x8192 .fp8e5m2) : Vec F S1x128x8192 .fp8e5m2 := fun z => W (allIx z)

/-- Where a device's rows begin in a slot. -/
theorem offs_eq (s : Fin 3) (c : Dev nD) : offs s c = ![s.val, 128 * c.val, 0] := by
  fin_cases s
  · exact k0_off3_eq c
  · exact k0_off2_eq c
  · exact k0_off1_eq c

/-- An index of a device's rows, as an index of the slot. -/
theorem trect_idx (s : Fin 3) (c : Dev nD) (z : (trect s c).toLoadRect.shape.Idx) :
    (trect s c).toLoadRect.idx z = (xrect s).emb (Shape.reshapeEquiv squeezes_S1x4096x128_S4096x128.numel_eq (rowIx c z)) := by
  have e : Shape.reshapeEquiv squeezes_S1x4096x128_S4096x128.numel_eq (rowIx c z) = ix3 (⟨0, Nat.one_pos⟩ : Fin 1) (rowIx c z 0) (rowIx c z 1) :=
    reshapeEquiv_ix2_1ab _ _ _
  rw [e]
  have h0 : (z 0).val = 0 := Nat.lt_one_iff.mp (z 0).isLt
  funext a
  refine Fin.ext ?_
  show offs s c a + 1 * (z a).val = _
  rw [offs_eq]
  match a with
  | ⟨0, _⟩ => show s.val + 1 * (z 0).val = s.val + 1 * 0; rw [h0]
  | ⟨1, _⟩ => show 128 * c.val + 1 * (z 1).val = 0 + 1 * (128 * c.val + (z 1).val); omega
  | ⟨2, _⟩ => rfl

/-- An index of a slot for `w_mat`, as an index of the buffer. -/
theorem wrect_idx (s : Fin 3) (z : (wrect s).toLoadRect.shape.Idx) :
    (wrect s).toLoadRect.idx z = (wrect s).emb (Shape.reshapeEquiv squeezes_S1x128x8192_S128x8192.numel_eq (allIx z)) := by
  have e : Shape.reshapeEquiv squeezes_S1x128x8192_S128x8192.numel_eq (allIx z) = ix3 (⟨0, Nat.one_pos⟩ : Fin 1) (allIx z 0) (allIx z 1) :=
    reshapeEquiv_ix2_1ab _ _ _
  rw [e]
  have h0 : (z 0).val = 0 := Nat.lt_one_iff.mp (z 0).isLt
  funext a
  refine Fin.ext ?_
  match a with
  | ⟨0, _⟩ => show s.val + 1 * (z 0).val = s.val + 1 * 0; rw [h0]
  | ⟨1, _⟩ => rfl
  | ⟨2, _⟩ => rfl

/-- A device's rows lie in the slot. -/
theorem tile_subset (d : Bool) (s : Fin 3) (c : Dev nD) : (xbuf d).view.setOn (trect s c).toLoadRect.set ⊆ (slot d false s).view.set :=
  box_subset (xbuf d) (xrect s) (fun _ => rfl) squeezes_S1x4096x128_S4096x128 _ (rowIx c) (trect_idx s c)
/-- A load of a slot for `w_mat` stays in the slot. -/
theorem full_subset (d : Bool) (s : Fin 3) : (wbuf d).view.setOn (wrect s).toLoadRect.set ⊆ (slot d true s).view.set :=
  box_subset (wbuf d) (wrect s) (fun _ => rfl) squeezes_S1x128x8192_S128x8192 _ allIx (wrect_idx s)

/-- What a load of a device's rows reads off a slot that holds `X`; of a slot of `w` that holds `W`. -/
theorem tile_read (d : Bool) (s : Fin 3) (c : Dev nD) (f : (slot d false s).view.ty.Contents (Elt F)) (X : FVec F S4096x128 .fp8e5m2)
    (h : (slot d false s).view.read (Elt F) f = X) : (xbuf d).view.readAt (Elt F) (trect s c).toLoadRect f = tileOf c X := by
  refine (box_read (xbuf d) (xrect s) (fun _ => rfl) squeezes_S1x4096x128_S4096x128 (trect s c).toLoadRect (rowIx c) (trect_idx s c) f).trans ?_
  funext z
  exact congrFun h (rowIx c z)
/-- Loading a slot for `w_mat` gives the block in it. -/
theorem full_read (d : Bool) (s : Fin 3) (f : (slot d true s).view.ty.Contents (Elt F)) (W : FVec F S128x8192 .fp8e5m2)
    (h : (slot d true s).view.read (Elt F) f = W) : (wbuf d).view.readAt (Elt F) (wrect s).toLoadRect f = fullOf W := by
  refine (box_read (wbuf d) (wrect s) (fun _ => rfl) squeezes_S1x128x8192_S128x8192 (wrect s).toLoadRect allIx (wrect_idx s) f).trans ?_
  funext z
  exact congrFun h (allIx z)

/-! ## A block put into a slot -/

/-- A store of a block of `x` stays in its slot. -/
theorem putX_subset (d : Bool) (s : Fin 3) : ((xbuf d).access (xrect s)).setOn Finset.univ ⊆ (slot d false s).view.set :=
  store_subset (xbuf d) (xrect s) (fun _ => rfl) squeezes_S1x4096x128_S4096x128
/-- A store of a block of `w_mat` stays in its slot. -/
theorem putW_subset (d : Bool) (s : Fin 3) : ((wbuf d).access (wrect s)).setOn Finset.univ ⊆ (slot d true s).view.set :=
  store_subset (wbuf d) (wrect s) (fun _ => rfl) squeezes_S1x128x8192_S128x8192

/-- After a store of a block of `x` the slot holds it. -/
theorem putX_read (d : Bool) (s : Fin 3) (f : (slot d false s).view.ty.Contents (Elt F)) (X : FVec F S4096x128 .fp8e5m2) :
    (slot d false s).view.read (Elt F) (((xbuf d).access (xrect s)).write (Elt F) f (shapeCast S1x4096x128 X shapeCasts_S4096x128_S1x4096x128) Finset.univ) = X := by
  refine (store_read (xbuf d) (xrect s) (fun _ => rfl) squeezes_S1x4096x128_S4096x128 f _).trans ?_
  funext y
  show X (Shape.reshapeEquiv _ (Shape.reshapeEquiv _ y)) = X y
  rw [Shape.reshapeEquiv_reshapeEquiv, Shape.reshapeEquiv_self]
/-- After a store of a block of `w_mat` the slot holds it. -/
theorem putW_read (d : Bool) (s : Fin 3) (f : (slot d true s).view.ty.Contents (Elt F)) (W : FVec F S128x8192 .fp8e5m2) :
    (slot d true s).view.read (Elt F) (((wbuf d).access (wrect s)).write (Elt F) f (shapeCast S1x128x8192 W shapeCasts_S128x8192_S1x128x8192) Finset.univ) = W := by
  refine (store_read (wbuf d) (wrect s) (fun _ => rfl) squeezes_S1x128x8192_S128x8192 f _).trans ?_
  funext y
  show W (Shape.reshapeEquiv _ (Shape.reshapeEquiv _ y)) = W y
  rw [Shape.reshapeEquiv_reshapeEquiv, Shape.reshapeEquiv_self]

/-! ## A buffer as its three slots -/

/-- The buffer of a direction and an operand. -/
abbrev buf (d b : Bool) : Ref sig .tc :=
  match d, b with | false, false => cc0_scratch0 | false, true => cc0_scratch1 | true, false => cc0_scratch2 | true, true => cc0_scratch3

/-- The indices of a slot for `x` are those with the slot's number in front. -/
theorem xrect_mem (s : Fin 3) (i : S3x4096x128.Idx) : i ∈ (xrect s).set ↔ (i 0).val = s.val := by
  rw [Rect.mem_set_unit]
  constructor
  · intro h
    have := h 0
    have h1 : s.val ≤ (i 0).val ∧ (i 0).val < s.val + 1 := this
    omega
  · intro h a
    match a with
    | ⟨0, _⟩ => exact (show s.val ≤ (i 0).val ∧ (i 0).val < s.val + 1 by omega)
    | ⟨1, _⟩ => exact ⟨Nat.zero_le _, (show (i 1).val < 0 + 4096 by have := (i 1).isLt; exact (Nat.zero_add 4096).symm ▸ this)⟩
    | ⟨2, _⟩ => exact ⟨Nat.zero_le _, (show (i 2).val < 0 + 128 by have := (i 2).isLt; exact (Nat.zero_add 128).symm ▸ this)⟩
/-- The indices of a slot for `w_mat` are those with the slot's number in front. -/
theorem wrect_mem (s : Fin 3) (i : S3x128x8192.Idx) : i ∈ (wrect s).set ↔ (i 0).val = s.val := by
  rw [Rect.mem_set_unit]
  constructor
  · intro h
    have := h 0
    have h1 : s.val ≤ (i 0).val ∧ (i 0).val < s.val + 1 := this
    omega
  · intro h a
    match a with
    | ⟨0, _⟩ => exact (show s.val ≤ (i 0).val ∧ (i 0).val < s.val + 1 by omega)
    | ⟨1, _⟩ => exact ⟨Nat.zero_le _, (show (i 1).val < 0 + 128 by have := (i 1).isLt; exact (Nat.zero_add 128).symm ▸ this)⟩
    | ⟨2, _⟩ => exact ⟨Nat.zero_le _, (show (i 2).val < 0 + 8192 by have := (i 2).isLt; exact (Nat.zero_add 8192).symm ▸ this)⟩

/-- Rectangles told apart by a first coordinate below three are a disjoint cover. -/
theorem thirds_disjoint {n : ℕ} {size : Fin (n + 1) → ℕ} (J : Fin 3 → Finset (⟨n + 1, size⟩ : Shape).Idx) (hJ : ∀ s i, i ∈ J s ↔ (i 0).val = s.val)
    (s s' : Fin 3) (h : s ≠ s') : Disjoint (J s) (J s') :=
  Finset.disjoint_left.mpr fun i hi hi' => h (Fin.ext (((hJ s i).mp hi).symm.trans ((hJ s' i).mp hi')))
/-- Three slots make up the buffer. -/
theorem thirds_cover {n : ℕ} {size : Fin (n + 1) → ℕ} (h3 : size 0 = 3) (J : Fin 3 → Finset (⟨n + 1, size⟩ : Shape).Idx) (hJ : ∀ s i, i ∈ J s ↔ (i 0).val = s.val) :
    Finset.univ.biUnion J = Finset.univ :=
  Finset.eq_univ_of_forall fun i => Finset.mem_biUnion.mpr ⟨⟨(i 0).val, h3 ▸ (i 0).isLt⟩, Finset.mem_univ _, (hJ _ i).mpr rfl⟩

/-- The indices of a slot for `x`, in either direction. -/
theorem slot_set_x (d : Bool) (s : Fin 3) (i : S3x4096x128.Idx) :
    i ∈ (show Finset S3x4096x128.Idx from match d with | false => (slot false false s).view.set | true => (slot true false s).view.set) ↔ (i 0).val = s.val := by
  rw [← xrect_mem]
  cases d
  · show i ∈ ((View.whole cc0_scratch0).slice (xrect s) |>.reshape S4096x128 squeezes_S1x4096x128_S4096x128.numel_eq).set ↔ _
    rw [View.set_reshape, View.set_slice_whole]
  · show i ∈ ((View.whole cc0_scratch2).slice (xrect s) |>.reshape S4096x128 squeezes_S1x4096x128_S4096x128.numel_eq).set ↔ _
    rw [View.set_reshape, View.set_slice_whole]
/-- The indices of a slot for `w_mat`, in either direction. -/
theorem slot_set_w (d : Bool) (s : Fin 3) (i : S3x128x8192.Idx) :
    i ∈ (show Finset S3x128x8192.Idx from match d with | false => (slot false true s).view.set | true => (slot true true s).view.set) ↔ (i 0).val = s.val := by
  rw [← wrect_mem]
  cases d
  · show i ∈ ((View.whole cc0_scratch1).slice (wrect s) |>.reshape S128x8192 squeezes_S1x128x8192_S128x8192.numel_eq).set ↔ _
    rw [View.set_reshape, View.set_slice_whole]
  · show i ∈ ((View.whole cc0_scratch3).slice (wrect s) |>.reshape S128x8192 squeezes_S1x128x8192_S128x8192.numel_eq).set ↔ _
    rw [View.set_reshape, View.set_slice_whole]

/-- A buffer with any contents is three slots with any contents. -/
theorem thirds_split {ℓ : Loc nD τ sig} (J : Fin 3 → Finset (Idx ℓ)) (hd : ∀ s s', s ≠ s' → Disjoint (J s) (J s')) (hc : Finset.univ.biUnion J = Finset.univ) :
    (iprop(∃ f : Buf (Elt F) ℓ, ℓ ↦{fullShare} f) : sProp 𝕄)
      ⊢ iprop((∃ f : Buf (Elt F) ℓ, ℓ ↦[J 0]{fullShare} f) ∗ (∃ f : Buf (Elt F) ℓ, ℓ ↦[J 1]{fullShare} f) ∗ (∃ f : Buf (Elt F) ℓ, ℓ ↦[J 2]{fullShare} f)) :=
  Ring.slots3_split J hd hc _ _ _ (fun _ => rfl) (fun _ => rfl) (fun _ => rfl)
/-- Three slots with any contents are a buffer with some contents. -/
theorem thirds_join {ℓ : Loc nD τ sig} (J : Fin 3 → Finset (Idx ℓ)) (hd : ∀ s s', s ≠ s' → Disjoint (J s) (J s')) (hc : Finset.univ.biUnion J = Finset.univ) :
    iprop((∃ f : Buf (Elt F) ℓ, ℓ ↦[J 0]{fullShare} f) ∗ (∃ f : Buf (Elt F) ℓ, ℓ ↦[J 1]{fullShare} f) ∗ (∃ f : Buf (Elt F) ℓ, ℓ ↦[J 2]{fullShare} f))
      ⊢ (iprop(∃ f : Buf (Elt F) ℓ, ℓ ↦{fullShare} f) : sProp 𝕄) :=
  Ring.slots3_join J hd hc _ _ _ (fun _ => rfl) (fun _ => rfl) (fun _ => rfl)

/-- A buffer and its three slots are the same resource. -/
theorem thirds_of_set {ℓ : Loc nD τ sig} (J : Fin 3 → Finset (Idx ℓ)) (hd : ∀ s s', s ≠ s' → Disjoint (J s) (J s')) (hc : Finset.univ.biUnion J = Finset.univ)
    (A : Fin 3 → sProp 𝕄) (hA : ∀ s, A s = iprop(∃ f : Buf (Elt F) ℓ, ℓ ↦[J s]{fullShare} f)) :
    (iprop(∃ f : Buf (Elt F) ℓ, ℓ ↦{fullShare} f) : sProp 𝕄) ⊣⊢ iprop(A 0 ∗ A 1 ∗ A 2) := by
  rw [hA, hA, hA]
  exact ⟨thirds_split J hd hc, thirds_join J hd hc⟩

/-- A buffer of either operand and direction is its three slots. -/
theorem buf_slots (d b : Bool) (c : Dev nD) :
    (iprop(∃ f : Buf (Elt F) ((c : Thread nD τ).loc (buf d b)), ((c : Thread nD τ).loc (buf d b)) ↦{fullShare} f) : sProp 𝕄)
      ⊣⊢ iprop(anything d b 0 c ∗ anything d b 1 c ∗ anything d b 2 c) := by
  cases d <;> cases b
  · have h : ∀ (s : Fin 3) (i : S3x4096x128.Idx), i ∈ (fun s => ((slot false false s).view.set : Finset S3x4096x128.Idx)) s ↔ (i 0).val = s.val := slot_set_x false
    exact thirds_of_set (ℓ := (c : Thread nD τ).loc cc0_scratch0) _ (thirds_disjoint _ h) (thirds_cover rfl _ h) (fun s => anything false false s c) (fun _ => rfl)
  · have h : ∀ (s : Fin 3) (i : S3x128x8192.Idx), i ∈ (fun s => ((slot false true s).view.set : Finset S3x128x8192.Idx)) s ↔ (i 0).val = s.val := slot_set_w false
    exact thirds_of_set (ℓ := (c : Thread nD τ).loc cc0_scratch1) _ (thirds_disjoint _ h) (thirds_cover rfl _ h) (fun s => anything false true s c) (fun _ => rfl)
  · have h : ∀ (s : Fin 3) (i : S3x4096x128.Idx), i ∈ (fun s => ((slot true false s).view.set : Finset S3x4096x128.Idx)) s ↔ (i 0).val = s.val := slot_set_x true
    exact thirds_of_set (ℓ := (c : Thread nD τ).loc cc0_scratch2) _ (thirds_disjoint _ h) (thirds_cover rfl _ h) (fun s => anything true false s c) (fun _ => rfl)
  · have h : ∀ (s : Fin 3) (i : S3x128x8192.Idx), i ∈ (fun s => ((slot true true s).view.set : Finset S3x128x8192.Idx)) s ↔ (i 0).val = s.val := slot_set_w true
    exact thirds_of_set (ℓ := (c : Thread nD τ).loc cc0_scratch3) _ (thirds_disjoint _ h) (thirds_cover rfl _ h) (fun s => anything true true s c) (fun _ => rfl)

end Cert.Ring

end
-- ==== Proof.Hop.lean ====
/- The steps of a hop, each from what it needs to what it leaves: copies start, leave and arrive, freed slots are taken and
   given, a block is multiplied in. -/
module

public import proofs.«01_k».proof.Proof.Slots

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

variable (m : (ℓ : Loc nD τ sig) → Buf (Elt F) ℓ)
variable (K : Dev nD × Cel → ℕ)

/-! ## Triples -/

/-- What every step may use: the cells' invariants, that each cell is at round 0, and the order of waits. -/
def recs : sProp 𝕄 :=
  iprop((bigSep Finset.univ fun x : Dev nD × Cel => cellInv ER (sched m) (K x) (cell x.1 x.2))
    ∗ (bigSep Finset.univ fun x : Dev nD × Cel => reached ER (cell x.1 x.2) 0) ∗ levAts L lv)

instance recs_persistent : BI.Persistent (recs m K : sProp 𝕄) := by unfold recs; infer_instance

/-- Every cell's invariant is among the shared facts. -/
theorem recs_inv (c : Dev nD) (k : Cel) : (recs m K : sProp 𝕄) ⊢ cellInv ER (sched m) (K (c, k)) (cell c k) := by
  unfold recs
  exact sep_elim_left.trans (bigSep_elim (Φ := fun x : Dev nD × Cel => cellInv ER (sched m) (K x) (cell x.1 x.2)) (Finset.mem_univ (c, k)))
/-- That every cell has reached its round 0 is among the shared facts. -/
theorem recs_zero (c : Dev nD) (k : Cel) : (recs m K : sProp 𝕄) ⊢ reached ER (cell c k) 0 := by
  unfold recs
  exact (sep_elim_right.trans sep_elim_left).trans (bigSep_elim (Φ := fun x : Dev nD × Cel => (reached ER (cell x.1 x.2) 0 : sProp 𝕄)) (Finset.mem_univ (c, k)))
set_option maxRecDepth 20000 in
/-- A wait on the device's own cell, when everything owed ranks above it. -/
theorem recs_may (c : Dev nD) (k : Cel) (i : ℕ) (hi : i < 32) (l : List Debt) (ha : Above (rank (some k) i) l) :
    (recs m K : sProp 𝕄) ⊢ MayWait (c : Thread nD τ) (csem k) i (owed c l) := by
  have ha' : Above (rank (dec (csem k)) i) l := by rw [dec_csem]; exact ha
  refine (show (recs m K : sProp 𝕄) ⊢ levAts L lv from ?_).trans (mayWait c (csem k) i hi l ha')
  unfold recs
  iintro ⟨-, -, H⟩
  iexact H

/-- On device `c`, program `p` runs from `A` to `B`, whatever follows it. -/
def Tri (c : Dev nD) (A : sProp 𝕄) (p : P F PUnit) (B : sProp 𝕄) : Prop :=
  ∀ (α : Type) (k : PUnit → P F α) (Q : α → sProp 𝕄),
    iprop(recs m K ∗ A ∗ (B -∗ wp frame (wpE (defs₀ (F := F)) 𝒱₀ (c : Thread nD τ) none) Set.univ (k ⟨⟩) Q))
      ⊢ wp frame (wpE (defs₀ (F := F)) 𝒱₀ (c : Thread nD τ) none) Set.univ (p >>= k) Q

/-- Returning changes nothing. -/
theorem tri_ret (c : Dev nD) (A : sProp 𝕄) : Tri m K c A (.ret ⟨⟩) A := by
  intro α k Q
  rw [Prog.bind_ret]
  iintro ⟨-, HA, Hk⟩
  iapply Hk
  iexact HA

/-- Two programs one after the other. -/
theorem tri_seq {c : Dev nD} {A B C : sProp 𝕄} {p p' : P F PUnit} (h : Tri m K c A p B) (h' : Tri m K c B p' C) :
    Tri m K c A (p >>= fun _ => p') C := by
  intro α k Q
  rw [bind_assoc]
  iintro ⟨#HR, HA, Hk⟩
  iapply (h _ (fun _ => p' >>= k) Q)
  isplitr; · iexact HR
  isplitl [HA]; · iexact HA
  iintro HB
  iapply (h' _ k Q)
  isplitr; · iexact HR
  isplitl [HB]; · iexact HB
  iexact Hk

/-- A stronger start and a weaker end. -/
theorem tri_conseq {c : Dev nD} {A A' B B' : sProp 𝕄} {p : P F PUnit} (hA : iprop(recs m K ∗ A') ⊢ A) (hB : B ⊢ B') (h : Tri m K c A p B) : Tri m K c A' p B' := by
  intro α k Q
  iintro ⟨#HR, HA, Hk⟩
  iapply (h _ k Q)
  isplitr; · iexact HR
  isplitl [HA]
  · iapply hA
    isplitr; · iexact HR
    iexact HA
  iintro HB
  iapply Hk
  iapply hB
  iexact HB

/-- What a program doesn't touch stays. -/
theorem tri_frame {c : Dev nD} {A B : sProp 𝕄} {p : P F PUnit} (R : sProp 𝕄) (h : Tri m K c A p B) : Tri m K c iprop(A ∗ R) p iprop(B ∗ R) := by
  intro α k Q
  iintro ⟨#HR, ⟨HA, HF⟩, Hk⟩
  iapply (h _ k Q)
  isplitr; · iexact HR
  isplitl [HA]; · iexact HA
  iintro HB
  iapply Hk
  isplitl [HB] <;> iassumption

/-- A resource held only when `b` says so, and a step taken only then. -/
def whenR (b : Bool) (R : sProp 𝕄) : sProp 𝕄 := cond b R iprop(emp)

/-- A program under a condition. -/
theorem tri_when {c : Dev nD} {A B : sProp 𝕄} {p : P F PUnit} (b : Bool) (h1 : b = true → Tri m K c A p B) (h0 : b = false → A ⊢ B) :
    Tri m K c A (whenP b p) B := by
  cases b
  · exact tri_conseq m K (by iintro ⟨-, H⟩; iexact H) (h0 rfl) (tri_ret m K c A)
  · exact h1 rfl

/-! ## What is owed, at some record of past waits -/

def owesSt (c : Dev nD) (l : List Debt) : sProp 𝕄 := iprop(∃ W : Waits sig ℕ, owes (c : Thread nD τ) (owed c l) W)

/-- The other direction's next device is this direction's previous one. -/
theorem nxt_not (d : Bool) (c : Dev nD) : nxt (!d) c = prv d c := by cases d <;> rfl

/-! ## One step each -/

/-- The copy of one operand starts: the source is lent at its left half, the landing slot given away. -/
theorem tri_send (d b : Bool) (h : ℕ) (hh : h < hops d) (c : Dev nD) (l : List Debt) :
    Tri m K c
      iprop(holds m d b (src h) fullShare.left c (org d h c) ∗ anything d b (dst h) (nxt d c)
        ∗ reached ER (cell (nxt d c) (.rv d b (rp h))) (h / 2)
        ∗ dutyTok ER (cell c (.sn d b (sp h))) (h / 2) false ∗ reached ER (cell c (.sn d b (sp h))) (h / 2)
        ∗ dutyTok ER (cell (nxt d c) (.rv d b (rp h))) (h / 2) false
        ∗ reached ER (cell c (.cr d)) (h - 1)
        ∗ owesSt c (⟨d, .rv d b (rp h), h⟩ :: l))
      (sendP d b (src h) (dst h) (sp h) (rp h) (nxt d c))
      iprop(cred (tallyAt (cell c (.sn d b (sp h))) h (amt b)) ∗ owesSt c l) := by
  intro α k Q
  unfold sendP Prog.lift holds anything owesSt
  rw [Prog.bind_op]
  iintro ⟨#HR, ⟨Hs, ⟨%fd, Hd⟩, #Hrr, Hts, #Hrs, Htr, Hcr, ⟨%W, Ho⟩⟩, Hk⟩
  ihave #HI1 := (recs_inv m K c (.sn d b (sp h))) $$ HR
  ihave #HI2 := (recs_inv m K (nxt d c) (.rv d b (rp h))) $$ HR
  iapply (Rounds.wp_send_pointsTo_with 𝒱₀ ER (sched m) (c : Thread nD τ) none (c' := (nxt d c : Thread nD τ)) (src := slot d b (src h)) (dst := slot d b (dst h))
      (sS := csem (.sn d b (sp h))) (sem := csem (.rv d b (rp h))) (κ₁ := K (c, .sn d b (sp h))) (κ₂ := K (nxt d c, .rv d b (rp h)))
      (r₁ := h / 2) (r₂ := h / 2) (d₁ := false) (d₂ := false) (fd := fd) (F := reached ER (cell c (.cr d)) (h - 1))
      (by rw [show ((c : Thread nD τ), csem (.sn d b (sp h))) = cell c (.sn d b (sp h)) from rfl, duties_cell, duties_sn d b h hh]; exact Finset.mem_singleton_self _)
      (by rw [show ((nxt d c : Thread nD τ), csem (.rv d b (rp h))) = cell (nxt d c) (.rv d b (rp h)) from rfl, duties_cell, duties_rv d b h hh]; exact Finset.mem_singleton_self _)
      h h (amt b) (amt_eq d b (dst h)) (amount_cell m c (.sn d b (sp h)) _ _) (amount_cell m (nxt d c) (.rv d b (rp h)) _ _)
      (owed c l) rfl (W := W)
      (by
        rw [show ((c : Thread nD τ), csem (.sn d b (sp h))) = cell c (.sn d b (sp h)) from rfl, payload_cell, payload_sn]
        exact BI.Entails.refl _)
      (by
        rw [show ((nxt d c : Thread nD τ), csem (.rv d b (rp h))) = cell (nxt d c) (.rv d b (rp h)) from rfl, payload_cell, payload_rv]
        unfold arrive
        rw [org_nxt, prv_nxt]
        refine sep_mono_left (Entails.of_eq (holds_of_read m d b (dst h) fullShare (nxt d c) (org d h c) _ ?_))
        rw [View.read_write_univ, View.read_write_univ])) $$ [Hs Hd Hts Htr Hcr Ho]
  · isplitr; · iexact HI1
    isplitr; · iexact HI2
    isplitl [Hs]; · iexact Hs
    isplitl [Hd Hcr]
    · isplitl [Hd] <;> iassumption
    isplitl [Ho]; · iexact Ho
    isplitl [Hts]; · iexact Hts
    isplitr; · iexact Hrs
    isplitl [Htr]; · iexact Htr
    iexact Hrr
  iintro ⟨Hc, Ho⟩
  iapply Hk
  isplitl [Hc]; · iexact Hc
  iexists W
  iexact Ho

/-- A wait for the whole of a round with one duty. -/
theorem wait_round (c : Dev nD) (k : Cel) (r i : ℕ) (hi : i < 32) (l : List Debt) (ha : Above (rank (some k) i) l) (hd : duties' (some k) r = {false})
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (csem k) (amount' (some k)) Kt) :
    Tri m K c iprop(cred (tallyAt (cell c k) i (amount' (some k))) ∗ atPos ER (cell c k) r ∅ 0 ∗ owesSt c l) (Prog.lift w)
      iprop(payload' m c (some k) r false ∗ atPos ER (cell c k) (r + 1) ∅ 0 ∗ reached ER (cell c k) (r + 1) ∗ owesSt c l) := by
  intro α kk Q
  unfold Prog.lift owesSt
  rw [Prog.bind_op]
  have hmay := recs_may m K c k i hi l ha
  iintro ⟨#HR, ⟨Hc, Hat, ⟨%W, Ho⟩⟩, Hk⟩
  ihave #HI := (recs_inv m K c k) $$ HR
  iapply (Rounds.wp_wait_rest_token 𝒱₀ ER (sched m) (c : Thread nD τ) none (κ := K (c, k)) (sm := csem k) hw (Set.mem_univ _) i (O := owed c l) (W := W) (R := r) (m := 0) (T := ∅)
      (show 0 + amount' (some k) = (sched m).expect (cell c k) r by rw [Nat.zero_add, expect_single m c k r hd])) $$ [Hc Hat Ho]
  · isplitr; · iexact HI
    isplitl [Hc]; · iexact Hc
    isplitl [Ho]; · iexact Ho
    isplitr
    · iapply (hmay)
      iexact HR
    iexact Hat
  iintro ⟨Ho, Hat, Hr, Hpay⟩
  ihave Hp := (show (bigSep ((sched m).duties ((c : Thread nD τ), csem k) r \ ∅) (fun d => (sched m).payload ((c : Thread nD τ), csem k) r d) : sProp 𝕄) ⊢ payload' m c (some k) r false from Entails.of_eq (rest_single m c k r hd)) $$ Hpay
  iapply Hk
  isplitl [Hp]; · iexact Hp
  isplitl [Hat]; · iexact Hat
  isplitl [Hr]; · iexact Hr
  iexists _
  iexact Ho

/-- The parities of a hop and of the next one. -/
theorem rp_le (h : ℕ) : (h + 1) % 2 = 1 - h % 2 := by omega

/-- The copy of one operand has left: the lent half of its source comes back. -/
theorem tri_left (d b : Bool) (h : ℕ) (hh : h < hops d) (c : Dev nD) (l : List Debt) (ha : Above 0 l) :
    Tri m K c iprop(cred (tallyAt (cell c (.sn d b (sp h))) h (amt b)) ∗ atPos ER (cell c (.sn d b (sp h))) (h / 2) ∅ 0 ∗ owesSt c l)
      (leftP d b (src h) (dst h) (sp h))
      iprop(holds m d b (src h) fullShare.left c (org d h c) ∗ atPos ER (cell c (.sn d b (sp h))) (h / 2 + 1) ∅ 0
        ∗ reached ER (cell c (.sn d b (sp h))) (h / 2 + 1) ∗ owesSt c l) := by
  have hh16 : h < 32 := lt_of_lt_of_le hh (by cases d <;> decide)
  have := wait_round m K c (.sn d b (sp h)) (h / 2) h hh16 l ha (duties_sn d b h hh)
    (w := .waitDma2 (sendS d b (sp h)) (slot d b (dst h)) (slot d b (src h)) (slot_words d b (dst h)) (slot_words d b (src h)))
    (fun Kt => (wpE_waitDma2_eq 𝒱₀ (c : Thread nD τ) none Set.univ Kt).trans (by rw [amt_eq]; rfl))
  rw [payload_sn] at this
  exact this

/-- The copy of one operand into this device has arrived. -/
theorem tri_here (d b : Bool) (h : ℕ) (hh : h < hops d) (c : Dev nD) (l : List Debt) (ha : Above (2 * h + 2) l) :
    Tri m K c iprop(cred (tallyAt (cell c (.rv d b (rp h))) h (amt b)) ∗ atPos ER (cell c (.rv d b (rp h))) (h / 2) ∅ 0 ∗ owesSt c l)
      (hereP d b (src h) (dst h) (rp h))
      iprop(arrive m d b c h ∗ atPos ER (cell c (.rv d b (rp h))) (h / 2 + 1) ∅ 0
        ∗ reached ER (cell c (.rv d b (rp h))) (h / 2 + 1) ∗ owesSt c l) := by
  have hh16 : h < 32 := lt_of_lt_of_le hh (by cases d <;> decide)
  have := wait_round m K c (.rv d b (rp h)) (h / 2) h hh16 l ha (duties_rv d b h hh)
    (w := .waitDma2 (recvS d b (rp h)) (slot d b (src h)) (slot d b (dst h)) (slot_words d b (src h)) (slot_words d b (dst h)))
    (fun Kt => (wpE_waitDma2_eq 𝒱₀ (c : Thread nD τ) none Set.univ Kt).trans (by rw [amt_eq]; rfl))
  rw [payload_rv] at this
  exact this

/-- A freed slot is taken. -/
theorem tri_take (d : Bool) (h : ℕ) (hh : h < hops d) (h2 : 2 ≤ h) (c : Dev nD) (l : List Debt) (ha : Above (2 * h + 1) l) :
    Tri m K c iprop(cred (tallyAt (cell c (.cr d)) (h - 2) 1) ∗ atPos ER (cell c (.cr d)) (h - 2) ∅ 0 ∗ owesSt c l)
      (takeP d)
      iprop(land d c h ∗ atPos ER (cell c (.cr d)) (h - 1) ∅ 0 ∗ reached ER (cell c (.cr d)) (h - 1) ∗ owesSt c l) := by
  have hh16 : h < 16 := lt_of_lt_of_le hh (by cases d <;> decide)
  have := wait_round m K c (.cr d) (h - 2) (h - 2) (by omega) l (ha.mono (by show 2 * (h - 2) + 5 ≤ _; omega)) (duties_cr d (h - 2) (by omega))
    (w := .semWait (credS d) (1#32 : BitVec 32).toInt)
    (fun Kt => wpE_semWait_eq 𝒱₀ (c : Thread nD τ) none Set.univ (k := 1) Kt)
  rw [show (payload' m c (some (.cr d)) (h - 2) false : sProp 𝕄) = land d c (h - 2 + 2) from rfl, show h - 2 + 2 = h by omega, show h - 2 + 1 = h - 1 by omega] at this
  exact this

/-- A freed slot is given to the device the blocks come from. -/
theorem tri_give (d : Bool) (h : ℕ) (h1 : 1 ≤ h) (hh : h + 1 < hops d) (c : Dev nD) (l : List Debt) :
    Tri m K c
      iprop(dutyTok ER (cell (prv d c) (.cr d)) (h - 1) false ∗ land d (prv d c) (h + 1) ∗ reached ER (cell (prv d c) (.cr d)) (h - 1)
        ∗ owesSt c (dFree d h ++ l))
      (giveP d (prv d c)) (owesSt c l) := by
  intro α k Q
  unfold giveP semSignalWord owesSt
  rw [Prog.bind_op]
  have hO : owed c (dFree d h ++ l) = owed c l + tallyAt ((prv d c : Thread nD τ), SemLoc.reg (credS d)) (h - 1) ((1#32 : BitVec 32).toNat) := by
    unfold dFree
    show owed c l + Debt.due _ c = _
    unfold Debt.due Debt.to
    rw [nxt_not]
    rfl
  iintro ⟨#HR, ⟨Ht, Hl, Hr, ⟨%W, Ho⟩⟩, Hk⟩
  ihave #HI := (recs_inv m K (prv d c) (.cr d)) $$ HR
  iapply (Rounds.wp_signal 𝒱₀ ER (sched m) (c : Thread nD τ) none (dst := (prv d c : Thread nD τ)) (sem := credS d) (κ := K (prv d c, .cr d)) (r := h - 1) (d := false)
      (by rw [show ((prv d c : Thread nD τ), SemLoc.reg (credS d)) = cell (prv d c) (.cr d) from rfl, duties_cell, duties_cr d (h - 1) (by omega)]; exact Finset.mem_singleton_self _)
      ((amount_cell m (prv d c) (.cr d) (h - 1) false).trans (show (1 : ℕ) = (1#32 : BitVec 32).toNat by decide)) (h - 1) (owed c l)
      hO) $$ [Ht Hl Hr Ho]
  · isplitr; · iexact HI
    isplitl [Ho]; · iexact Ho
    isplitl [Ht]; · iexact Ht
    isplitl [Hl]
    · rw [show ((prv d c : Thread nD τ), SemLoc.reg (credS d)) = cell (prv d c) (.cr d) from rfl, payload_cell,
        show (payload' m (prv d c) (some (.cr d)) (h - 1) false : sProp 𝕄) = land d (prv d c) (h - 1 + 2) from rfl, show h - 1 + 2 = h + 1 by omega]
      iexact Hl
    iexact Hr
  iintro Ho
  iapply Hk
  iexists W
  iexact Ho

end Cert.Ring

end
-- ==== Proof.Mul.lean ====
/- Multiplying a block in: the loads of the device's rows and of `w`, the result block read and written. -/
module

public import proofs.«01_k».proof.Proof.Hop

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)
variable (K : Dev nD × Cel → ℕ)

/-- The result block of device `c`. -/
def outPt (c : Dev nD) (v : Vec F S128x8192 .f32) : sProp 𝕄 := ((c : Thread nD τ).loc cc0_stg4_0) ↦{fullShare} v

/-- Two zeros are the zero offset. -/
theorem zeros2 : (![0, 0] : Fin 2 → Nat) = fun _ => 0 := funext fun a => by fin_cases a <;> rfl

/-- Reading the whole result buffer gives its contents. -/
theorem read_out (f : Vec F S128x8192 .f32) : (outM : Memref sig .tc .vmem S128x8192 .f32).view.readAt (Elt F) orect.toLoadRect f = f :=
  Memref.readAt_unit_zero (Elt F) cc0_stg4_0 zeros2 _ f
/-- Writing the whole result buffer leaves what was written. -/
theorem write_out (f w : Vec F S128x8192 .f32) : ((outM : Memref sig .tc .vmem S128x8192 .f32).access orect).write (Elt F) f w Finset.univ = w :=
  Memref.write_access_unit_zero_univ (Elt F) cc0_stg4_0 zeros2 _ f w

section Steps

/-- Loading the result buffer. -/
theorem wp_read_out {α : Type} (c : Dev nD) (Q : α → sProp 𝕄) (v : Vec F S128x8192 .f32) (k : Vec F S128x8192 .f32 → P F α) {hl} :
    (outPt c v : sProp 𝕄) ⊢ iprop((outPt c v -∗ wp frame (wpE (defs₀ (F := F)) 𝒱₀ (c : Thread nD τ) none) Set.univ (k v) Q)
      -∗ wp frame (wpE (defs₀ (F := F)) 𝒱₀ (c : Thread nD τ) none) Set.univ (.op (.load outM orect.toLoadRect hl) k) Q) := by
  have h := wp_load (defs := defs₀ (F := F)) (Q := Q) (Γ := .empty) 𝒱₀ (c : Thread nD τ) none Set.univ (m := outM) (r := orect.toLoadRect) (hl := hl) (k := k) (S := Finset.univ) (q := fullShare) (f := v) (Finset.subset_univ _)
  rw [read_out] at h
  exact h

/-- Storing into the result buffer. -/
theorem wp_write_out {α : Type} (c : Dev nD) (Q : α → sProp 𝕄) (v w : Vec F S128x8192 .f32) (k : PUnit → P F α) {hx hm} :
    (outPt c v : sProp 𝕄) ⊢ iprop((outPt c w -∗ wp frame (wpE (defs₀ (F := F)) 𝒱₀ (c : Thread nD τ) none) Set.univ (k ⟨⟩) Q)
      -∗ wp frame (wpE (defs₀ (F := F)) 𝒱₀ (c : Thread nD τ) none) Set.univ (.op (.store outM orect w Finset.univ hx hm) k) Q) := by
  have h := wp_store (defs := defs₀ (F := F)) (Q := Q) (Γ := .empty) 𝒱₀ (c : Thread nD τ) none Set.univ (m := outM) (r := orect) (w := w) (Mk := Finset.univ) (hx := hx) (hm := hm) (k := k) (S := Finset.univ) (f := v)
    (Finset.subset_univ _)
  rw [write_out] at h
  exact h

/-- Loading the device's own rows of the block of `x` in a slot. -/
theorem wp_read_tile {α : Type} (c : Dev nD) (Q : α → sProp 𝕄) (d : Bool) (s : Fin 3) (q : PosShare TreeShare) (o : Dev nD) (k : Vec F S1x128x128 .fp8e5m2 → P F α) {hl} :
    (holds m d false s q c o : sProp 𝕄)
      ⊢ iprop((holds m d false s q c o -∗ wp frame (wpE (defs₀ (F := F)) 𝒱₀ (c : Thread nD τ) none) Set.univ (k (tileOf c (blkX m o))) Q)
      -∗ wp frame (wpE (defs₀ (F := F)) 𝒱₀ (c : Thread nD τ) none) Set.univ (.op (.load (xbuf d) (trect s c).toLoadRect hl) k) Q) := by
  have h := wp_load (defs := defs₀ (F := F)) (Q := Q) (Γ := .empty) 𝒱₀ (c : Thread nD τ) none Set.univ (m := xbuf d) (r := (trect s c).toLoadRect) (hl := hl) (k := k)
    (S := (slot d false s).view.set) (q := q)
    (f := (slot d false s).view.write (Elt F) (m ((slot d false s).view.loc (c : Thread nD τ))) (blkX m o) Finset.univ) (tile_subset d s c)
  rw [tile_read d s c _ (blkX m o) (View.read_write_univ _ _)] at h
  exact h

/-- Loading the block of `w_mat` in a slot. -/
theorem wp_read_full {α : Type} (c : Dev nD) (Q : α → sProp 𝕄) (d : Bool) (s : Fin 3) (q : PosShare TreeShare) (o : Dev nD) (k : Vec F S1x128x8192 .fp8e5m2 → P F α) {hl} :
    (holds m d true s q c o : sProp 𝕄)
      ⊢ iprop((holds m d true s q c o -∗ wp frame (wpE (defs₀ (F := F)) 𝒱₀ (c : Thread nD τ) none) Set.univ (k (fullOf (blkW m o))) Q)
      -∗ wp frame (wpE (defs₀ (F := F)) 𝒱₀ (c : Thread nD τ) none) Set.univ (.op (.load (wbuf d) (wrect s).toLoadRect hl) k) Q) := by
  have h := wp_load (defs := defs₀ (F := F)) (Q := Q) (Γ := .empty) 𝒱₀ (c : Thread nD τ) none Set.univ (m := wbuf d) (r := (wrect s).toLoadRect) (hl := hl) (k := k)
    (S := (slot d true s).view.set) (q := q)
    (f := (slot d true s).view.write (Elt F) (m ((slot d true s).view.loc (c : Thread nD τ))) (blkW m o) Finset.univ) (full_subset d s)
  rw [full_read d s _ (blkW m o) (View.read_write_univ _ _)] at h
  exact h

end Steps

/-- Replacing the result buffer's contents by a function of them. -/
theorem tri_bump (c : Dev nD) (f : Vec F S128x8192 .f32 → FVec F S128x8192 .f32) (v : Vec F S128x8192 .f32) :
    Tri m K c (outPt c v) (bumpP f) (outPt c (f v)) := by
  intro α k Q
  unfold bumpP
  simp only [Prog.lift, Prog.bind_op, Prog.bind_ret]
  iintro ⟨-, H, Hk⟩
  iapply (wp_read_out c Q v _) $$ H; iintro H
  iapply (wp_read_out c Q v _) $$ H; iintro H
  iapply (wp_write_out c Q v (f v) _) $$ H; iintro H
  iapply Hk
  iexact H

/-- The result block with device `o`'s blocks multiplied in. -/
def addBlk (c o : Dev nD) (v : Vec F S128x8192 .f32) : Vec F S128x8192 .f32 := k0_pay11 (tileOf c (blkX m o)) (fullOf (blkW m o)) v

/-- Adding the product of the blocks in a slot to the result buffer; the slot may be held by any share. -/
theorem tri_accum (d : Bool) (s : Fin 3) (q : PosShare TreeShare) (c o : Dev nD) (v : Vec F S128x8192 .f32) :
    Tri m K c iprop(both (fun b => holds m d b s q c o) ∗ outPt c v) (accumP d s c)
      iprop(both (fun b => holds m d b s q c o) ∗ outPt c (addBlk m c o v)) := by
  intro α k Q
  unfold accumP both
  simp only [Prog.lift, Prog.bind_op, Prog.bind_ret]
  iintro ⟨#HR, ⟨⟨Hx, Hw⟩, H⟩, Hk⟩
  iapply (wp_read_tile m c Q d s q o _) $$ Hx; iintro Hx
  iapply (wp_read_full m c Q d s q o _) $$ Hw; iintro Hw
  iapply (tri_bump m K c _ v α k Q)
  isplitr; · iexact HR
  isplitl [H]; · iexact H
  iintro H
  iapply Hk
  isplitl [Hx Hw]
  · isplitl [Hx] <;> iassumption
  iexact H

end Cert.Ring

end
-- ==== Proof.Dir.lean ====
/- One hop of the ring, and the hops in a row: what each direction holds at the start of a hop, and that the hop brings it to
   the next. -/
module

public import proofs.«01_k».proof.Proof.Mul

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)
variable (K : Dev nD × Cel → ℕ)

/-! ## What a direction holds at the start of hop `h` -/

/-- The two landing slots that were free from the start, as far as they are not used yet. -/
def early (d : Bool) (c : Dev nD) : ℕ → sProp 𝕄
  | 0 => iprop(land d c 0 ∗ land d c 1)
  | 1 => land d c 1
  | _ + 2 => iprop(emp)
/-- How far the device has taken freed slots. -/
def atCr (d : Bool) (c : Dev nD) (h : ℕ) : sProp 𝕄 := atPos ER (cell c (.cr d)) (h - 2) ∅ 0
/-- The device's position at the cells of hop `h`'s copies. -/
def atSn (d b : Bool) (c : Dev nD) (h : ℕ) : sProp 𝕄 :=
  iprop(atPos ER (cell c (.sn d b (sp h))) (h / 2) ∅ 0 ∗ reached ER (cell c (.sn d b (sp h))) (h / 2))
def atRv (d b : Bool) (c : Dev nD) (h : ℕ) : sProp 𝕄 :=
  iprop(atPos ER (cell c (.rv d b (rp h))) (h / 2) ∅ 0 ∗ reached ER (cell c (.rv d b (rp h))) (h / 2))
def pos (d : Bool) (c : Dev nD) (h : ℕ) : sProp 𝕄 :=
  both fun b => iprop((atSn d b c h ∗ atSn d b c (h + 1)) ∗ (atRv d b c h ∗ atRv d b c (h + 1)))
/-- The slots the device keeps for itself: its own blocks once sent, and the last slot sent from. -/
def kept (d : Bool) (c : Dev nD) (h : ℕ) : sProp 𝕄 :=
  iprop(whenR (decide (1 ≤ h)) (both fun b => anything d b 2 c) ∗ whenR (decide (h = hops d)) (both fun b => anything d b (src (h - 1)) c))
/-- Both operands' blocks of a device in the slot hop `h` sends from. -/
def inSrc (d : Bool) (q : PosShare TreeShare) (c : Dev nD) (h : ℕ) : sProp 𝕄 := both fun b => holds m d b (src h) q c (org d h c)

def dirAt (d : Bool) (c : Dev nD) (h : ℕ) : sProp 𝕄 :=
  iprop(inSrc m d fullShare c h ∗ early d c h ∗ atCr d c h ∗ kept d c h ∗ pos d c h)

/-- What hop `h` uses up: the tokens of the duties it pays, the credits of the waits it makes. -/
def payKit (d : Bool) (c : Dev nD) (h : ℕ) : sProp 𝕄 :=
  both fun b => iprop(dutyTok ER (cell c (.sn d b (sp h))) (h / 2) false ∗ dutyTok ER (cell (nxt d c) (.rv d b (rp h))) (h / 2) false)
def getKit (d : Bool) (c : Dev nD) (h : ℕ) : sProp 𝕄 := both fun b => cred (tallyAt (cell c (.rv d b (rp h))) h (amt b))
def takeKit (d : Bool) (c : Dev nD) (h : ℕ) : sProp 𝕄 := whenR (decide (2 ≤ h)) (cred (tallyAt (cell c (.cr d)) (h - 2) 1))
def giveKit (d : Bool) (c : Dev nD) (h : ℕ) : sProp 𝕄 := whenR (decide (1 ≤ h ∧ h + 1 < hops d)) (dutyTok ER (cell (prv d c) (.cr d)) (h - 1) false)
def kit (d : Bool) (c : Dev nD) (h : ℕ) : sProp 𝕄 := iprop(payKit d c h ∗ getKit d c h ∗ takeKit d c h ∗ giveKit d c h)

/-! ## A direction's part of a hop -/

/-- Before hop `h` the target slot at the neighbour is free: from the third hop on by a wait for its signal. -/
theorem dir_take (d : Bool) (h : ℕ) (hh : h < hops d) (c : Dev nD) (l : List Debt) (ha : Above (2 * h + 1) l) :
    Tri m K c iprop(early d c h ∗ atCr d c h ∗ takeKit d c h ∗ owesSt c l) (whenP (decide (2 ≤ h)) (takeP d))
      iprop((early d c (h + 1) ∗ atCr d c (h + 1)) ∗ (land d c h ∗ reached ER (cell c (.cr d)) (h - 1)) ∗ owesSt c l) := by
  match h, hh, ha with
  | 0, _, _ =>
    refine tri_conseq m K (A := iprop((early d c 1 ∗ atCr d c 1) ∗ (land d c 0 ∗ reached ER (cell c (.cr d)) 0) ∗ owesSt c l)) ?_ .rfl (tri_ret m K c _)
    unfold early atCr
    iintro ⟨#HR, ⟨H0, H1⟩, Ha, -, Ho⟩
    isplitl [H1 Ha]; · isplitl [H1] <;> iassumption
    isplitl [H0]
    · isplitl [H0]; · iexact H0
      iapply (recs_zero m K c (.cr d)); iexact HR
    iexact Ho
  | 1, _, _ =>
    refine tri_conseq m K (A := iprop((early d c 2 ∗ atCr d c 2) ∗ (land d c 1 ∗ reached ER (cell c (.cr d)) 0) ∗ owesSt c l)) ?_ .rfl (tri_ret m K c _)
    unfold early atCr
    iintro ⟨#HR, H1, Ha, -, Ho⟩
    isplitl [Ha]
    · isplitr; · iempintro
      iexact Ha
    isplitl [H1]
    · isplitl [H1]; · iexact H1
      iapply (recs_zero m K c (.cr d)); iexact HR
    iexact Ho
  | h + 2, hh, ha =>
    show Tri m K c _ (takeP d) _
    refine tri_conseq m K ?_ ?_ (tri_take m K d (h + 2) hh (by omega) c l ha)
    · show iprop(recs m K ∗ emp ∗ atPos ER (cell c (.cr d)) (h + 2 - 2) ∅ 0 ∗ cred (tallyAt (cell c (.cr d)) (h + 2 - 2) 1) ∗ owesSt c l) ⊢ _
      iintro ⟨-, -, Ha, Hc, Ho⟩
      isplitl [Hc]; · iexact Hc
      isplitl [Ha] <;> iassumption
    · show _ ⊢ iprop((emp ∗ atPos ER (cell c (.cr d)) (h + 2 - 1) ∅ 0) ∗ (land d c (h + 2) ∗ reached ER (cell c (.cr d)) (h + 2 - 1)) ∗ owesSt c l)
      iintro ⟨Hl, Ha, Hr, Ho⟩
      isplitl [Ha]
      · isplitr; · iempintro
        iexact Ha
      isplitl [Hl Hr]
      · isplitl [Hl] <;> iassumption
      iexact Ho

/-- The credits for the copies leaving. -/
def outKit (d : Bool) (c : Dev nD) (h : ℕ) : sProp 𝕄 := both fun b => cred (tallyAt (cell c (.sn d b (sp h))) h (amt b))

/-- Starting a hop's two copies: half a share of each source goes with the copy, and the arrivals are no longer owed. -/
theorem dir_start (d : Bool) (h : ℕ) (hh : h < hops d) (c : Dev nD) (l : List Debt) :
    Tri m K c
      iprop(inSrc m d fullShare c h ∗ (land d c h ∗ reached ER (cell c (.cr d)) (h - 1)) ∗ payKit d c h ∗ pos d c h ∗ owesSt c (dSend d h ++ l))
      (startP d h (nxt d c))
      iprop(inSrc m d fullShare.right c h ∗ outKit d c h ∗ pos d c h ∗ owesSt c l) := by
  intro α k Q
  unfold startP inSrc land payKit pos outKit atSn both dSend
  rw [bind_assoc]
  iintro ⟨#HR, ⟨⟨Hx, Hw⟩, ⟨⟨⟨Hlx, #Hrx⟩, ⟨Hlw, #Hrw⟩⟩, #Hcr⟩, ⟨⟨Tsx, Trx⟩, ⟨Tsw, Trw⟩⟩,
    ⟨⟨⟨⟨Ax, #Rx⟩, Ax'⟩, Bx⟩, ⟨⟨⟨Aw, #Rw⟩, Aw'⟩, Bw⟩⟩, Ho⟩, Hk⟩
  ihave Hx2 := (holds_halves m d false (src h) c (org d h c)).1 $$ Hx
  icases Hx2 with ⟨Hxl, Hxr⟩
  ihave Hw2 := (holds_halves m d true (src h) c (org d h c)).1 $$ Hw
  icases Hw2 with ⟨Hwl, Hwr⟩
  iapply (tri_send m K d false h hh c (⟨d, .rv d true (rp h), h⟩ :: l) α _ Q)
  isplitr; · iexact HR
  isplitl [Hxl Hlx Tsx Trx Ho]
  · isplitl [Hxl]; · iexact Hxl
    isplitl [Hlx]; · iexact Hlx
    isplitr; · iexact Hrx
    isplitl [Tsx]; · iexact Tsx
    isplitr; · iexact Rx
    isplitl [Trx]; · iexact Trx
    isplitr; · iexact Hcr
    iexact Ho
  iintro ⟨Cx, Ho⟩
  iapply (tri_send m K d true h hh c l α _ Q)
  isplitr; · iexact HR
  isplitl [Hwl Hlw Tsw Trw Ho]
  · isplitl [Hwl]; · iexact Hwl
    isplitl [Hlw]; · iexact Hlw
    isplitr; · iexact Hrw
    isplitl [Tsw]; · iexact Tsw
    isplitr; · iexact Rw
    isplitl [Trw]; · iexact Trw
    isplitr; · iexact Hcr
    iexact Ho
  iintro ⟨Cw, Ho⟩
  iapply Hk
  isplitl [Hxr Hwr]; · isplitl [Hxr] <;> iassumption
  isplitl [Cx Cw]; · isplitl [Cx] <;> iassumption
  isplitl [Ax Ax' Bx Aw Aw' Bw]
  · isplitl [Ax Ax' Bx]
    · isplitl [Ax Ax']
      · isplitl [Ax]
        · isplitl [Ax]; · iexact Ax
          iexact Rx
        iexact Ax'
      iexact Bx
    · isplitl [Aw Aw']
      · isplitl [Aw]
        · isplitl [Aw]; · iexact Aw
          iexact Rw
        iexact Aw'
      iexact Bw
  iexact Ho

/-- The send cell's position after hop `h` is its position before hop `h + 2`. -/
theorem atSn_next (d b : Bool) (c : Dev nD) (h : ℕ) :
    (iprop(atPos ER (cell c (.sn d b (sp h))) (h / 2 + 1) ∅ 0 ∗ reached ER (cell c (.sn d b (sp h))) (h / 2 + 1)) : sProp 𝕄) = atSn d b c (h + 2) := by
  have e : sp (h + 2) = sp h := Fin.ext (by show (h + 2) % 2 = h % 2; omega)
  unfold atSn
  rw [e, show (h + 2) / 2 = h / 2 + 1 by omega]
/-- The receive cell's position after hop `h` is its position before hop `h + 2`. -/
theorem atRv_next (d b : Bool) (c : Dev nD) (h : ℕ) :
    (iprop(atPos ER (cell c (.rv d b (rp h))) (h / 2 + 1) ∅ 0 ∗ reached ER (cell c (.rv d b (rp h))) (h / 2 + 1)) : sProp 𝕄) = atRv d b c (h + 2) := by
  have e : rp (h + 2) = rp h := Fin.ext (by show (h + 2 + 1) % 2 = (h + 1) % 2; omega)
  unfold atRv
  rw [e, show (h + 2) / 2 = h / 2 + 1 by omega]

/-- One operand's two waits. -/
theorem dir_one (d b : Bool) (h : ℕ) (hh : h < hops d) (c : Dev nD) (l : List Debt) (ha : Above (2 * h + 2) l) :
    Tri m K c
      iprop(cred (tallyAt (cell c (.sn d b (sp h))) h (amt b)) ∗ cred (tallyAt (cell c (.rv d b (rp h))) h (amt b)) ∗ atSn d b c h ∗ atRv d b c h ∗ owesSt c l)
      (leftP d b (src h) (dst h) (sp h) >>= fun _ => hereP d b (src h) (dst h) (rp h))
      iprop(holds m d b (src h) fullShare.left c (org d h c) ∗ arrive m d b c h ∗ atSn d b c (h + 2) ∗ atRv d b c (h + 2) ∗ owesSt c l) := by
  intro α k Q
  rw [bind_assoc, ← atSn_next, ← atRv_next]
  unfold atSn atRv
  iintro ⟨#HR, ⟨Cs, Cr, ⟨As, -⟩, ⟨Ar, -⟩, Ho⟩, Hk⟩
  iapply (tri_left m K d b h hh c l (ha.mono (Nat.zero_le _)) α _ Q)
  isplitr; · iexact HR
  isplitl [Cs As Ho]
  · isplitl [Cs]; · iexact Cs
    isplitl [As] <;> iassumption
  iintro ⟨Hs, As, Rs, Ho⟩
  iapply (tri_here m K d b h hh c l ha α _ Q)
  isplitr; · iexact HR
  isplitl [Cr Ar Ho]
  · isplitl [Cr]; · iexact Cr
    isplitl [Ar] <;> iassumption
  iintro ⟨Hr, Ar, Rr, Ho⟩
  iapply Hk
  isplitl [Hs]; · iexact Hs
  isplitl [Hr]; · iexact Hr
  isplitl [As Rs]; · isplitl [As] <;> iassumption
  isplitl [Ar Rr]; · isplitl [Ar] <;> iassumption
  iexact Ho

/-- Waiting for a hop's copies: the lent half of each source comes back, and the blocks that arrived are handed over. -/
theorem dir_finish (d : Bool) (h : ℕ) (hh : h < hops d) (c : Dev nD) (l : List Debt) (ha : Above (2 * h + 2) l) :
    Tri m K c
      iprop(inSrc m d fullShare.right c h ∗ outKit d c h ∗ getKit d c h ∗ pos d c h ∗ owesSt c l) (finishP d h)
      iprop(inSrc m d fullShare c h ∗ (both fun b => arrive m d b c h) ∗ pos d c (h + 1) ∗ owesSt c l) := by
  intro α k Q
  have e : finishP (F := F) d h = ((leftP d false (src h) (dst h) (sp h) >>= fun _ => hereP d false (src h) (dst h) (rp h)) >>= fun _ =>
      (leftP d true (src h) (dst h) (sp h) >>= fun _ => hereP d true (src h) (dst h) (rp h))) := by
    unfold finishP; simp only [bind_assoc]
  rw [e, bind_assoc]
  unfold inSrc outKit getKit pos both
  iintro ⟨#HR, ⟨⟨Hx, Hw⟩, ⟨Sx, Sw⟩, ⟨Gx, Gw⟩, ⟨⟨⟨A1, A2⟩, ⟨A3, A4⟩⟩, ⟨⟨B1, B2⟩, ⟨B3, B4⟩⟩⟩, Ho⟩, Hk⟩
  iapply (dir_one m K d false h hh c l ha α _ Q)
  isplitr; · iexact HR
  isplitl [Sx Gx A1 A3 Ho]
  · isplitl [Sx]; · iexact Sx
    isplitl [Gx]; · iexact Gx
    isplitl [A1]; · iexact A1
    isplitl [A3] <;> iassumption
  iintro ⟨Hx', Rx, A1, A3, Ho⟩
  iapply (dir_one m K d true h hh c l ha α _ Q)
  isplitr; · iexact HR
  isplitl [Sw Gw B1 B3 Ho]
  · isplitl [Sw]; · iexact Sw
    isplitl [Gw]; · iexact Gw
    isplitl [B1]; · iexact B1
    isplitl [B3] <;> iassumption
  iintro ⟨Hw', Rw, B1, B3, Ho⟩
  iapply Hk
  isplitl [Hx Hx' Hw Hw']
  · isplitl [Hx Hx']
    · iapply (holds_halves m d false (src h) c (org d h c)).2
      isplitl [Hx'] <;> iassumption
    · iapply (holds_halves m d true (src h) c (org d h c)).2
      isplitl [Hw'] <;> iassumption
  isplitl [Rx Rw]; · isplitl [Rx] <;> iassumption
  isplitl [A1 A2 A3 A4 B1 B2 B3 B4]
  · isplitl [A1 A2 A3 A4]
    · isplitl [A1 A2]
      · isplitl [A2] <;> iassumption
      · isplitl [A4] <;> iassumption
    · isplitl [B1 B2]
      · isplitl [B2] <;> iassumption
      · isplitl [B4] <;> iassumption
  iexact Ho

/-- The slot that hop `h` sends from is the slot that hop `h + 1` writes to. -/
theorem src_dst (h : ℕ) (h1 : 1 ≤ h) : src h = dst (h + 1) := by
  match h, h1 with
  | h + 1, _ => exact Fin.ext (by show (h + 1) % 2 = (h + 1 + 1 + 1) % 2; omega)

/-- A list under a false condition is empty. -/
theorem dIf_false (l l' : List Debt) : dIf false l ++ l' = l' := rfl
/-- A hop sends from the slot that the hop before wrote to. -/
theorem src_succ (h : ℕ) : src (h + 1) = dst h := rfl

/-- The slot sent from is free again: kept, or given to the device the blocks come from. -/
theorem dir_give (d : Bool) (h : ℕ) (hh : h < hops d) (c : Dev nD) (l : List Debt) :
    Tri m K c
      iprop(inSrc m d fullShare c h ∗ (both fun b => arrive m d b c h) ∗ kept d c h ∗ pos d c (h + 1) ∗ giveKit d c h
        ∗ owesSt c (dIf (decide (1 ≤ h ∧ h + 1 < hops d)) (dFree d h) ++ l))
      (whenP (decide (1 ≤ h ∧ h + 1 < hops d)) (giveP d (prv d c)))
      iprop(inSrc m d fullShare c (h + 1) ∗ kept d c (h + 1) ∗ pos d c (h + 1) ∗ owesSt c l) := by
  by_cases h1 : 1 ≤ h
  · by_cases hl : h + 1 < hops d
    · rw [decide_eq_true (show 1 ≤ h ∧ h + 1 < hops d from ⟨h1, hl⟩)]
      show Tri m K c _ (giveP d (prv d c)) _
      intro α k Q
      unfold giveKit kept
      rw [decide_eq_true (show 1 ≤ h ∧ h + 1 < hops d from ⟨h1, hl⟩), decide_eq_true h1, decide_eq_true (show 1 ≤ h + 1 by omega),
        decide_eq_false (show ¬ h = hops d by omega), decide_eq_false (show ¬ h + 1 = hops d by omega)]
      unfold whenR inSrc arrive pos atRv both
      simp only [cond_true, cond_false, src_succ]
      iintro ⟨#HR, ⟨⟨Hx, Hw⟩, ⟨⟨Rx, #Cr⟩, ⟨Rw, -⟩⟩, ⟨K2, -⟩, ⟨⟨A, ⟨⟨Ar, #Rr⟩, A'⟩⟩, ⟨B, ⟨⟨Br, #Sr⟩, B'⟩⟩⟩, T, Ho⟩, Hk⟩
      iapply (tri_give m K d h h1 hl c l α _ Q)
      isplitr; · iexact HR
      isplitl [Hx Hw T Ho]
      · isplitl [T]; · iexact T
        isplitl [Hx Hw]
        · unfold land both
          rw [nxt_prv, src_dst h h1]
          isplitl [Hx]
          · isplitl [Hx]; · iapply (holds_anything m d false (dst (h + 1)) c (org d h c)); iexact Hx
            iexact Rr
          · isplitl [Hw]; · iapply (holds_anything m d true (dst (h + 1)) c (org d h c)); iexact Hw
            iexact Sr
        isplitr; · iexact Cr
        iexact Ho
      iintro Ho
      iapply Hk
      isplitl [Rx Rw]; · isplitl [Rx] <;> iassumption
      isplitl [K2]
      · isplitl [K2]; · iexact K2
        iempintro
      isplitl [A Ar A' B Br B']
      · isplitl [A Ar A']
        · isplitl [A]; · iexact A
          isplitl [Ar]
          · isplitl [Ar]; · iexact Ar
            iexact Rr
          iexact A'
        · isplitl [B]; · iexact B
          isplitl [Br]
          · isplitl [Br]; · iexact Br
            iexact Sr
          iexact B'
      iexact Ho
    · rw [decide_eq_false (show ¬ (1 ≤ h ∧ h + 1 < hops d) from fun x => hl x.2)]
      refine tri_conseq m K ?_ .rfl (tri_ret m K c _)
      have e : h + 1 = hops d := by omega
      unfold kept
      rw [decide_eq_true h1, decide_eq_true (show 1 ≤ h + 1 by omega), decide_eq_true e, decide_eq_false (show ¬ h = hops d by omega)]
      unfold whenR inSrc arrive both
      simp only [cond_true, cond_false, src_succ, Nat.add_sub_cancel]
      iintro ⟨#HR, ⟨Hx, Hw⟩, ⟨⟨Rx, -⟩, ⟨Rw, -⟩⟩, ⟨K2, -⟩, Hp, -, Ho⟩
      isplitl [Rx Rw]; · isplitl [Rx] <;> iassumption
      isplitl [K2 Hx Hw]
      · isplitl [K2]; · iexact K2
        isplitl [Hx]
        · iapply (holds_anything m d false (src h) c (org d h c)); iexact Hx
        · iapply (holds_anything m d true (src h) c (org d h c)); iexact Hw
      rw [dIf_false]
      isplitl [Hp] <;> iassumption
  · obtain rfl : h = 0 := by omega
    have e : hops d ≠ 0 ∧ hops d ≠ 1 := by cases d <;> decide
    rw [decide_eq_false (show ¬ (1 ≤ 0 ∧ 0 + 1 < hops d) from fun x => h1 x.1)]
    refine tri_conseq m K ?_ .rfl (tri_ret m K c _)
    unfold kept
    rw [decide_eq_false h1, decide_eq_true (show 1 ≤ 0 + 1 by omega), decide_eq_false (show ¬ 0 = hops d from fun x => e.1 x.symm),
      decide_eq_false (show ¬ 0 + 1 = hops d from fun x => e.2 x.symm)]
    unfold whenR inSrc arrive both
    simp only [cond_true, cond_false, src_succ]
    iintro ⟨#HR, ⟨Hx, Hw⟩, ⟨⟨Rx, -⟩, ⟨Rw, -⟩⟩, -, Hp, -, Ho⟩
    isplitl [Rx Rw]; · isplitl [Rx] <;> iassumption
    isplitl [Hx Hw]
    · isplitl [Hx Hw]
      · isplitl [Hx]
        · iapply (holds_anything m d false (src 0) c (org d 0 c)); iexact Hx
        · iapply (holds_anything m d true (src 0) c (org d 0 c)); iexact Hw
      iempintro
    rw [dIf_false]
    isplitl [Hp] <;> iassumption

end Cert.Ring

end
-- ==== Proof.Run.lean ====
/- The sixteen hops: one hop of both directions, and the hops in a row, with what the result block holds after each. -/
module

public import proofs.«01_k».proof.Proof.Dir

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)
variable (K : Dev nD × Cel → ℕ)

/-- The result block of device `c` at the start of hop `h`: the device's own product, then from hop 1 on one block of each
    direction a hop. -/
def outV (c : Dev nD) : ℕ → Vec F S128x8192 .f32
  | 0 => k0_pay8 (tileOf c (blkX m c)) (fullOf (blkW m c))
  | 1 => k0_pay8 (tileOf c (blkX m c)) (fullOf (blkW m c))
  | h + 2 => addBlk m c (org true (h + 1) c) (addBlk m c (org false (h + 1) c) (outV c (h + 1)))

/-- The multiplications of a hop. -/
theorem dir_accum (h : ℕ) (q q' : PosShare TreeShare) (c : Dev nD) :
    Tri m K c iprop(inSrc m false q c h ∗ inSrc m true q' c h ∗ outPt c (outV m c h))
      (whenP (decide (1 ≤ h)) (accumP false (src h) c >>= fun _ => accumP true (src h) c))
      iprop(inSrc m false q c h ∗ inSrc m true q' c h ∗ outPt c (outV m c (h + 1))) := by
  match h with
  | 0 => exact tri_ret m K c _
  | h + 1 =>
    show Tri m K c _ (accumP false (src (h + 1)) c >>= fun _ => accumP true (src (h + 1)) c) _
    intro α k Q
    rw [bind_assoc]
    unfold inSrc
    iintro ⟨#HR, ⟨H0, H1, Ho⟩, Hk⟩
    iapply (tri_accum m K false (src (h + 1)) q c (org false (h + 1) c) (outV m c (h + 1)) α _ Q)
    isplitr; · iexact HR
    isplitl [H0 Ho]; · isplitl [H0]; iexact H0; iexact Ho
    iintro ⟨H0, Ho⟩
    iapply (tri_accum m K true (src (h + 1)) q' c (org true (h + 1) c) (addBlk m c (org false (h + 1) c) (outV m c (h + 1))) α _ Q)
    isplitr; · iexact HR
    isplitl [H1 Ho]; · isplitl [H1]; iexact H1; iexact Ho
    iintro ⟨H1, Ho⟩
    iapply Hk
    isplitl [H0]; · iexact H0
    isplitl [H1]; · iexact H1
    iexact Ho

/-- The debts of a hop in which both directions send. -/
theorem dHop_lt (h : ℕ) (hh : h < 15) :
    dHop h = dSend false h ++ (dSend true h ++ (dIf (decide (1 ≤ h ∧ h + 1 < hops false)) (dFree false h) ++ dIf (decide (1 ≤ h ∧ h + 1 < hops true)) (dFree true h))) := by
  unfold dHop
  rw [decide_eq_true hh, show decide (1 ≤ h ∧ h + 1 < hops false) = decide (1 ≤ h ∧ h < 15) from decide_eq_decide.mpr (by show _ ∧ h + 1 < 16 ↔ _; omega),
    show decide (1 ≤ h ∧ h + 1 < hops true) = decide (1 ≤ h ∧ h < 14) from decide_eq_decide.mpr (by show _ ∧ h + 1 < 15 ↔ _; omega)]
  rfl

/-- A hop with both directions under way, in the order of its steps. -/
theorem hopP_lt (c : Dev nD) (h : ℕ) (hh : h < 15) :
    hopP (F := F) c (leftOf c) (rightOf c) h = (whenP (decide (2 ≤ h)) (takeP false) >>= fun _ => whenP (decide (2 ≤ h)) (takeP true) >>= fun _ =>
      startP false h (nxt false c) >>= fun _ => startP true h (nxt true c) >>= fun _ =>
      whenP (decide (1 ≤ h)) (accumP false (src h) c >>= fun _ => accumP true (src h) c) >>= fun _ =>
      finishP false h >>= fun _ => finishP true h >>= fun _ =>
      whenP (decide (1 ≤ h ∧ h + 1 < hops false)) (giveP false (prv false c)) >>= fun _ =>
      whenP (decide (1 ≤ h ∧ h + 1 < hops true)) (giveP true (prv true c))) := by
  unfold hopP
  rw [decide_eq_true hh, show decide (1 ≤ h ∧ h + 1 < hops false) = decide (1 ≤ h ∧ h < 15) from decide_eq_decide.mpr (by show _ ∧ h + 1 < 16 ↔ _; omega),
    show decide (1 ≤ h ∧ h + 1 < hops true) = decide (1 ≤ h ∧ h < 14) from decide_eq_decide.mpr (by show _ ∧ h + 1 < 15 ↔ _; omega),
    show decide (2 ≤ h ∧ h < 15) = decide (2 ≤ h) from decide_eq_decide.mpr (by omega)]
  rfl

/-- A hop in which both directions send. -/
theorem hop_both (c : Dev nD) (h : ℕ) (hh : h < 15) (l : List Debt) (ha : Above (2 * h + 3) l) :
    Tri m K c
      iprop(dirAt m false c h ∗ dirAt m true c h ∗ kit false c h ∗ kit true c h ∗ outPt c (outV m c h) ∗ owesSt c (dHop h ++ l))
      (hopP c (leftOf c) (rightOf c) h)
      iprop(dirAt m false c (h + 1) ∗ dirAt m true c (h + 1) ∗ outPt c (outV m c (h + 1)) ∗ owesSt c l) := by
  have hf : h < hops false := by show h < 16; omega
  have ht : h < hops true := hh
  have hfree : ∀ n, n < 2 * h + 3 → Above n (dIf (decide (1 ≤ h ∧ h + 1 < hops false)) (dFree false h) ++ (dIf (decide (1 ≤ h ∧ h + 1 < hops true)) (dFree true h) ++ l)) :=
    fun n hn => .append (.dIf fun e => above_free _ _ _ (by omega) (of_decide_eq_true e).1 hn)
      (.append (.dIf fun e => above_free _ _ _ (by omega) (of_decide_eq_true e).1 hn) (ha.mono (by omega)))
  have hall : Above (2 * h + 1) (dSend false h ++ (dSend true h ++ (dIf (decide (1 ≤ h ∧ h + 1 < hops false)) (dFree false h)
      ++ (dIf (decide (1 ≤ h ∧ h + 1 < hops true)) (dFree true h) ++ l)))) :=
    .append (above_send _ _ _ (by omega) (by omega)) (.append (above_send _ _ _ (by omega) (by omega)) (hfree _ (by omega)))
  rw [hopP_lt c h hh, dHop_lt h hh]
  simp only [List.append_assoc]
  intro α k Q
  simp only [bind_assoc]
  unfold dirAt kit
  iintro ⟨#HR, ⟨⟨S0, E0, C0, K0, P0⟩, ⟨S1, E1, C1, K1, P1⟩, ⟨p0, g0, t0, v0⟩, ⟨p1, g1, t1, v1⟩, Hout, Ho⟩, Hk⟩
  iapply (dir_take m K false h hf c _ hall α _ Q)
  isplitr; · iexact HR
  isplitl [E0 C0 t0 Ho]
  · isplitl [E0]; · iexact E0
    isplitl [C0]; · iexact C0
    isplitl [t0] <;> iassumption
  iintro ⟨⟨E0, C0⟩, L0, Ho⟩
  iapply (dir_take m K true h ht c _ hall α _ Q)
  isplitr; · iexact HR
  isplitl [E1 C1 t1 Ho]
  · isplitl [E1]; · iexact E1
    isplitl [C1]; · iexact C1
    isplitl [t1] <;> iassumption
  iintro ⟨⟨E1, C1⟩, L1, Ho⟩
  iapply (dir_start m K false h hf c _ α _ Q)
  isplitr; · iexact HR
  isplitl [S0 L0 p0 P0 Ho]
  · isplitl [S0]; · iexact S0
    isplitl [L0]; · iexact L0
    isplitl [p0]; · iexact p0
    isplitl [P0] <;> iassumption
  iintro ⟨S0, O0, P0, Ho⟩
  iapply (dir_start m K true h ht c _ α _ Q)
  isplitr; · iexact HR
  isplitl [S1 L1 p1 P1 Ho]
  · isplitl [S1]; · iexact S1
    isplitl [L1]; · iexact L1
    isplitl [p1]; · iexact p1
    isplitl [P1] <;> iassumption
  iintro ⟨S1, O1, P1, Ho⟩
  iapply (dir_accum m K h fullShare.right fullShare.right c α _ Q)
  isplitr; · iexact HR
  isplitl [S0 S1 Hout]
  · isplitl [S0]; · iexact S0
    isplitl [S1] <;> iassumption
  iintro ⟨S0, S1, Hout⟩
  iapply (dir_finish m K false h hf c _ (hfree _ (by omega)) α _ Q)
  isplitr; · iexact HR
  isplitl [S0 O0 g0 P0 Ho]
  · isplitl [S0]; · iexact S0
    isplitl [O0]; · iexact O0
    isplitl [g0]; · iexact g0
    isplitl [P0] <;> iassumption
  iintro ⟨S0, A0, P0, Ho⟩
  iapply (dir_finish m K true h ht c _ (hfree _ (by omega)) α _ Q)
  isplitr; · iexact HR
  isplitl [S1 O1 g1 P1 Ho]
  · isplitl [S1]; · iexact S1
    isplitl [O1]; · iexact O1
    isplitl [g1]; · iexact g1
    isplitl [P1] <;> iassumption
  iintro ⟨S1, A1, P1, Ho⟩
  iapply (dir_give m K false h hf c _ α _ Q)
  isplitr; · iexact HR
  isplitl [S0 A0 K0 P0 v0 Ho]
  · isplitl [S0]; · iexact S0
    isplitl [A0]; · iexact A0
    isplitl [K0]; · iexact K0
    isplitl [P0]; · iexact P0
    isplitl [v0] <;> iassumption
  iintro ⟨S0, K0, P0, Ho⟩
  iapply (dir_give m K true h ht c _ α _ Q)
  isplitr; · iexact HR
  isplitl [S1 A1 K1 P1 v1 Ho]
  · isplitl [S1]; · iexact S1
    isplitl [A1]; · iexact A1
    isplitl [K1]; · iexact K1
    isplitl [P1]; · iexact P1
    isplitl [v1] <;> iassumption
  iintro ⟨S1, K1, P1, Ho⟩
  iapply Hk
  isplitl [S0 E0 C0 K0 P0]
  · isplitl [S0]; · iexact S0
    isplitl [E0]; · iexact E0
    isplitl [C0]; · iexact C0
    isplitl [K0] <;> iassumption
  isplitl [S1 E1 C1 K1 P1]
  · isplitl [S1]; · iexact S1
    isplitl [E1]; · iexact E1
    isplitl [C1]; · iexact C1
    isplitl [K1] <;> iassumption
  isplitl [Hout] <;> iassumption

/-- The last hop, of the left direction alone. -/
theorem hop_last (c : Dev nD) (l : List Debt) (ha : Above 33 l) :
    Tri m K c
      iprop(dirAt m false c 15 ∗ dirAt m true c 15 ∗ kit false c 15 ∗ outPt c (outV m c 15) ∗ owesSt c (dHop 15 ++ l))
      (hopP c (leftOf c) (rightOf c) 15)
      iprop(dirAt m false c 16 ∗ dirAt m true c 15 ∗ outPt c (outV m c 16) ∗ owesSt c l) := by
  have hf : 15 < hops false := by decide
  have e : hopP (F := F) c (leftOf c) (rightOf c) 15 = (whenP (decide (2 ≤ 15)) (takeP false) >>= fun _ => startP false 15 (nxt false c) >>= fun _ =>
      whenP (decide (1 ≤ 15)) (accumP false (src 15) c >>= fun _ => accumP true (src 15) c) >>= fun _ =>
      finishP false 15 >>= fun _ => whenP (decide (1 ≤ 15 ∧ 15 + 1 < hops false)) (giveP false (prv false c))) := by
    rfl
  have ed : dHop 15 ++ l = dSend false 15 ++ (dIf (decide (1 ≤ 15 ∧ 15 + 1 < hops false)) (dFree false 15) ++ l) := by rfl
  have hfin : Above 32 (dIf (decide (1 ≤ 15 ∧ 15 + 1 < hops false)) (dFree false 15) ++ l) :=
    .append (.dIf fun e => absurd (of_decide_eq_true e).2 (by decide)) (ha.mono (by omega))
  have hall : Above 31 (dSend false 15 ++ (dIf (decide (1 ≤ 15 ∧ 15 + 1 < hops false)) (dFree false 15) ++ l)) :=
    .append (above_send _ _ _ (by omega) (by omega)) (.append (.dIf fun e => absurd (of_decide_eq_true e).2 (by decide)) (ha.mono (by omega)))
  rw [e, ed]
  intro α k Q
  simp only [bind_assoc]
  unfold dirAt kit
  iintro ⟨#HR, ⟨⟨S0, E0, C0, K0, P0⟩, ⟨S1, H1⟩, ⟨p0, g0, t0, v0⟩, Hout, Ho⟩, Hk⟩
  iapply (dir_take m K false 15 hf c _ hall α _ Q)
  isplitr; · iexact HR
  isplitl [E0 C0 t0 Ho]
  · isplitl [E0]; · iexact E0
    isplitl [C0]; · iexact C0
    isplitl [t0] <;> iassumption
  iintro ⟨⟨E0, C0⟩, L0, Ho⟩
  iapply (dir_start m K false 15 hf c _ α _ Q)
  isplitr; · iexact HR
  isplitl [S0 L0 p0 P0 Ho]
  · isplitl [S0]; · iexact S0
    isplitl [L0]; · iexact L0
    isplitl [p0]; · iexact p0
    isplitl [P0] <;> iassumption
  iintro ⟨S0, O0, P0, Ho⟩
  iapply (dir_accum m K 15 fullShare.right fullShare c α _ Q)
  isplitr; · iexact HR
  isplitl [S0 S1 Hout]
  · isplitl [S0]; · iexact S0
    isplitl [S1] <;> iassumption
  iintro ⟨S0, S1, Hout⟩
  iapply (dir_finish m K false 15 hf c _ hfin α _ Q)
  isplitr; · iexact HR
  isplitl [S0 O0 g0 P0 Ho]
  · isplitl [S0]; · iexact S0
    isplitl [O0]; · iexact O0
    isplitl [g0]; · iexact g0
    isplitl [P0] <;> iassumption
  iintro ⟨S0, A0, P0, Ho⟩
  iapply (dir_give m K false 15 hf c _ α _ Q)
  isplitr; · iexact HR
  isplitl [S0 A0 K0 P0 v0 Ho]
  · isplitl [S0]; · iexact S0
    isplitl [A0]; · iexact A0
    isplitl [K0]; · iexact K0
    isplitl [P0]; · iexact P0
    isplitl [v0] <;> iassumption
  iintro ⟨S0, K0, P0, Ho⟩
  iapply Hk
  isplitl [S0 E0 C0 K0 P0]
  · isplitl [S0]; · iexact S0
    isplitl [E0]; · iexact E0
    isplitl [C0]; · iexact C0
    isplitl [K0] <;> iassumption
  isplitl [S1 H1]
  · isplitl [S1] <;> iassumption
  isplitl [Hout] <;> iassumption

/-! ## The hops in a row -/

/-- What hop `h` uses up of both directions, and what the `n` hops from `h` on do. -/
def kits (c : Dev nD) (h : ℕ) : sProp 𝕄 := iprop(kit false c h ∗ whenR (decide (h < 15)) (kit true c h))
def kitsFrom (c : Dev nD) : ℕ → ℕ → sProp 𝕄
  | 0, _ => iprop(emp)
  | n + 1, h => iprop(kits c h ∗ kitsFrom c n (h + 1))

/-- Any hop: the last one sends to the left alone. -/
theorem hop_any (c : Dev nD) (h : ℕ) (hh : h < 16) (l : List Debt) (ha : Above (2 * h + 3) l) :
    Tri m K c
      iprop(dirAt m false c h ∗ dirAt m true c (min h 15) ∗ kits c h ∗ outPt c (outV m c h) ∗ owesSt c (dHop h ++ l))
      (hopP c (leftOf c) (rightOf c) h)
      iprop(dirAt m false c (h + 1) ∗ dirAt m true c (min (h + 1) 15) ∗ outPt c (outV m c (h + 1)) ∗ owesSt c l) := by
  unfold kits
  by_cases h15 : h < 15
  · rw [decide_eq_true h15, Nat.min_eq_left (by omega : h ≤ 15), Nat.min_eq_left (by omega : h + 1 ≤ 15)]
    refine tri_conseq m K ?_ .rfl (hop_both m K c h h15 l ha)
    show iprop(recs m K ∗ dirAt m false c h ∗ dirAt m true c h ∗ (kit false c h ∗ kit true c h) ∗ outPt c (outV m c h) ∗ owesSt c (dHop h ++ l)) ⊢ _
    iintro ⟨-, H0, H1, ⟨K0, K1⟩, Hout, Ho⟩
    isplitl [H0]; · iexact H0
    isplitl [H1]; · iexact H1
    isplitl [K0]; · iexact K0
    isplitl [K1]; · iexact K1
    isplitl [Hout] <;> iassumption
  · obtain rfl : h = 15 := by omega
    refine tri_conseq m K ?_ .rfl (hop_last m K c l ha)
    show iprop(recs m K ∗ dirAt m false c 15 ∗ dirAt m true c 15 ∗ (kit false c 15 ∗ emp) ∗ outPt c (outV m c 15) ∗ owesSt c (dHop 15 ++ l)) ⊢ _
    iintro ⟨-, H0, H1, ⟨K0, -⟩, Hout, Ho⟩
    isplitl [H0]; · iexact H0
    isplitl [H1]; · iexact H1
    isplitl [K0]; · iexact K0
    isplitl [Hout] <;> iassumption

/-- All the hops from `h` on, with nothing owed at the end. -/
theorem hops_run (c : Dev nD) (n : ℕ) : ∀ h : ℕ, h + n = 16 →
    Tri m K c
      iprop(dirAt m false c h ∗ dirAt m true c (min h 15) ∗ kitsFrom c n h ∗ outPt c (outV m c h) ∗ owesSt c (dRest n h))
      (hopsP c (leftOf c) (rightOf c) n h)
      iprop(dirAt m false c 16 ∗ dirAt m true c 15 ∗ outPt c (outV m c 16) ∗ owesSt c []) := by
  induction n with
  | zero =>
    intro h hh
    obtain rfl : h = 16 := hh
    refine tri_conseq m K ?_ .rfl (tri_ret m K c _)
    show iprop(recs m K ∗ dirAt m false c 16 ∗ dirAt m true c 15 ∗ emp ∗ outPt c (outV m c 16) ∗ owesSt c []) ⊢ _
    iintro ⟨-, H0, H1, -, Hout, Ho⟩
    isplitl [H0]; · iexact H0
    isplitl [H1]; · iexact H1
    isplitl [Hout] <;> iassumption
  | succ n ih =>
    intro h hh
    refine tri_seq m K (B := iprop(dirAt m false c (h + 1) ∗ dirAt m true c (min (h + 1) 15) ∗ kitsFrom c n (h + 1) ∗ outPt c (outV m c (h + 1)) ∗ owesSt c (dRest n (h + 1)))) ?_
      (ih (h + 1) (by omega))
    refine tri_conseq m K ?_ ?_ (tri_frame m K (kitsFrom c n (h + 1)) (hop_any m K c h (by omega) (dRest n (h + 1)) (above_rest n (h + 1) (2 * h + 3) (by omega) (by omega))))
    · show iprop(recs m K ∗ dirAt m false c h ∗ dirAt m true c (min h 15) ∗ (kits c h ∗ kitsFrom c n (h + 1)) ∗ outPt c (outV m c h) ∗ owesSt c (dHop h ++ dRest n (h + 1))) ⊢ _
      iintro ⟨-, H0, H1, ⟨Hk, Hr⟩, Hout, Ho⟩
      isplitr [Hr]
      · isplitl [H0]; · iexact H0
        isplitl [H1]; · iexact H1
        isplitl [Hk]; · iexact Hk
        isplitl [Hout] <;> iassumption
      iexact Hr
    · iintro ⟨⟨H0, H1, Hout, Ho⟩, Hr⟩
      isplitl [H0]; · iexact H0
      isplitl [H1]; · iexact H1
      isplitl [Hr]; · iexact Hr
      isplitl [Hout] <;> iassumption

end Cert.Ring

end
-- ==== Proof.Open.lean ====
/- Around the hops: the handshake with both neighbours, the device's own blocks put in place and multiplied, and the scaling
   and activation at the end. -/
module

public import proofs.«01_k».proof.Proof.Run
public import Idealize.ShloMosaic.Lib.Pipeline.Value

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)
variable (K : Dev nD × Cel → ℕ)

/-! ## The handshake -/

/-- The two landing slots of a direction, both operands, free on device `c`. -/
def freeSlots (d : Bool) (c : Dev nD) : sProp 𝕄 := both fun b => iprop(anything d b 0 c ∗ anything d b 1 c)

/-- The slots device `c` offers are what its neighbour needs for its first two hops. -/
theorem freeSlots_land (w : Bool) (c : Dev nD) :
    iprop(recs m K ∗ freeSlots (!w) c) ⊢ (iprop(land (!w) (nxt w c) 0 ∗ land (!w) (nxt w c) 1) : sProp 𝕄) := by
  unfold freeSlots land both
  rw [nxt_not, prv_nxt]
  iintro ⟨#HR, ⟨⟨X0, X1⟩, ⟨W0, W1⟩⟩⟩
  ihave #Rx1 := (recs_zero m K c (.rv (!w) false 1)) $$ HR
  ihave #Rw1 := (recs_zero m K c (.rv (!w) true 1)) $$ HR
  ihave #Rx0 := (recs_zero m K c (.rv (!w) false 0)) $$ HR
  ihave #Rw0 := (recs_zero m K c (.rv (!w) true 0)) $$ HR
  isplitl [X1 W1]
  · isplitl [X1]
    · isplitl [X1]; · iexact X1
      iexact Rx1
    · isplitl [W1]; · iexact W1
      iexact Rw1
  · isplitl [X0]
    · isplitl [X0]; · iexact X0
      iexact Rx0
    · isplitl [W0]; · iexact W0
      iexact Rw0

/-- The signal on a neighbour's barrier hands it the two slots that it will copy into first. -/
theorem tri_offer (w : Bool) (c : Dev nD) (l : List Debt) :
    Tri m K c iprop(dutyTok ER (cell (nxt w c) .bar) 0 (!w) ∗ freeSlots (!w) c ∗ owesSt c (⟨w, .bar, 0⟩ :: l))
      (semSignalWord (nxt w c) barS 1#32) (owesSt c l) := by
  intro α k Q
  unfold semSignalWord owesSt
  rw [Prog.bind_op]
  iintro ⟨#HR, ⟨Ht, Hl, ⟨%W, Ho⟩⟩, Hk⟩
  ihave #HI := (recs_inv m K (nxt w c) .bar) $$ HR
  ihave #H0 := (recs_zero m K (nxt w c) .bar) $$ HR
  iapply (Rounds.wp_signal 𝒱₀ ER (sched m) (c : Thread nD τ) none (dst := (nxt w c : Thread nD τ)) (sem := barS) (κ := K (nxt w c, .bar)) (r := 0) (d := !w)
      (by rw [show ((nxt w c : Thread nD τ), SemLoc.reg barS) = cell (nxt w c) .bar from rfl, duties_cell]; exact Finset.mem_univ _)
      ((amount_cell m (nxt w c) .bar 0 (!w)).trans (show (1 : ℕ) = (1#32 : BitVec 32).toNat by decide)) 0 (owed c l)
      rfl) $$ [Ht Hl Ho]
  · isplitr; · iexact HI
    isplitl [Ho]; · iexact Ho
    isplitl [Ht]; · iexact Ht
    isplitl [Hl]
    · rw [show ((nxt w c : Thread nD τ), SemLoc.reg barS) = cell (nxt w c) .bar from rfl, payload_cell,
        show (payload' m (nxt w c) (some .bar) 0 (!w) : sProp 𝕄) = iprop(land (!w) (nxt w c) 0 ∗ land (!w) (nxt w c) 1) from rfl]
      iapply (freeSlots_land m K w c)
      isplitr; · iexact HR
      iexact Hl
    iexact H0
  iintro Ho
  iapply Hk
  iexists W
  iexact Ho

/-- The wait on the barrier gives the slots at both neighbours. -/
theorem tri_meet (c : Dev nD) (l : List Debt) (ha : Above 1 l) :
    Tri m K c iprop(cred (tallyAt (cell c .bar) 0 2) ∗ atPos ER (cell c .bar) 0 ∅ 0 ∗ owesSt c l)
      (semWaitWord barS 2#32)
      iprop(early false c 0 ∗ early true c 0 ∗ atPos ER (cell c .bar) 1 ∅ 0 ∗ owesSt c l) := by
  intro α k Q
  unfold semWaitWord owesSt
  rw [Prog.bind_op]
  have hmay := recs_may m K c .bar 0 (by omega) l ha
  iintro ⟨#HR, ⟨Hc, Hat, ⟨%W, Ho⟩⟩, Hk⟩
  ihave #HI := (recs_inv m K c .bar) $$ HR
  iapply (Rounds.wp_wait_rest_token 𝒱₀ ER (sched m) (c : Thread nD τ) none (κ := K (c, .bar)) (sm := csem .bar)
      (wpE_semWait_eq 𝒱₀ (c : Thread nD τ) none Set.univ) (Set.mem_univ _) 0 (O := owed c l) (W := W) (R := 0) (m := 0) (T := ∅)
      (show 0 + (2#32 : BitVec 32).toNat = (sched m).expect (cell c .bar) 0 by rw [expect_bar]; decide)) $$ [Hc Hat Ho]
  · isplitr; · iexact HI
    isplitl [Hc]; · iexact Hc
    isplitl [Ho]; · iexact Ho
    isplitr
    · iapply (hmay)
      iexact HR
    iexact Hat
  iintro ⟨Ho, Hat, -, Hpay⟩
  ihave Hp := (show (bigSep ((sched m).duties ((c : Thread nD τ), csem .bar) 0 \ ∅) (fun d => (sched m).payload ((c : Thread nD τ), csem .bar) 0 d) : sProp 𝕄) ⊢ _ from Entails.of_eq (rest_bar m c)) $$ Hpay
  icases Hp with ⟨H0, H1⟩
  iapply Hk
  unfold early
  isplitl [H0]; · iexact H0
  isplitl [H1]; · iexact H1
  isplitl [Hat]; · iexact Hat
  iexists _
  iexact Ho

/-- The barrier: both signals and the wait. -/
theorem tri_greet (c : Dev nD) :
    Tri m K c
      iprop((dutyTok ER (cell (nxt false c) .bar) 0 true ∗ dutyTok ER (cell (nxt true c) .bar) 0 false) ∗ (freeSlots false c ∗ freeSlots true c)
        ∗ cred (tallyAt (cell c .bar) 0 2) ∗ atPos ER (cell c .bar) 0 ∅ 0 ∗ owesSt c dAll)
      (greetP (leftOf c) (rightOf c))
      iprop(early false c 0 ∗ early true c 0 ∗ atPos ER (cell c .bar) 1 ∅ 0 ∗ owesSt c (dRest 16 0)) := by
  intro α k Q
  unfold greetP dAll
  simp only [bind_assoc]
  iintro ⟨#HR, ⟨⟨T0, T1⟩, ⟨F0, F1⟩, Hc, Hat, Ho⟩, Hk⟩
  iapply (tri_offer m K false c _ α _ Q)
  isplitr; · iexact HR
  isplitl [T0 F1 Ho]
  · isplitl [T0]; · iexact T0
    isplitl [F1]; · iexact F1
    iexact Ho
  iintro Ho
  iapply (tri_offer m K true c _ α _ Q)
  isplitr; · iexact HR
  isplitl [T1 F0 Ho]
  · isplitl [T1]; · iexact T1
    isplitl [F0]; · iexact F0
    iexact Ho
  iintro Ho
  iapply (tri_meet m K c _ (above_rest 16 0 1 (by omega) (by omega)) α k Q)
  isplitr; · iexact HR
  isplitl [Hc Hat Ho]
  · isplitl [Hc]; · iexact Hc
    isplitl [Hat] <;> iassumption
  iexact Hk

/-! ## The device's own blocks -/

/-- The staged blocks of the device. -/
def xPt (c : Dev nD) : sProp 𝕄 := ((c : Thread nD τ).loc cc0_stg0_0) ↦{fullShare} (blkX m c : Vec F S4096x128 .fp8e5m2)
def wPt (c : Dev nD) : sProp 𝕄 := ((c : Thread nD τ).loc cc0_stg1_0) ↦{fullShare} (blkW m c : Vec F S128x8192 .fp8e5m2)

/-- A store into a slot for `x` stays in the slot. -/
theorem putX_access (d : Bool) (s : Fin 3) : (xbuf d).view.setOn (xrect s).toLoadRect.set ⊆ (slot d false s).view.set := by
  have h := putX_subset d s
  rw [View.setOn_univ, show ((xbuf d).access (xrect s)).set = (xbuf d).view.setOn (xrect s).set from View.set_slice _ _] at h
  exact h

/-- Loading from the third slot for `x`, whatever it holds. -/
theorem wp_peekX {α : Type} (c : Dev nD) (Q : α → sProp 𝕄) (d : Bool) (f : Buf (Elt F) ((slot d false 2).view.loc (c : Thread nD τ))) (k : Vec F S1x4096x128 .fp8e5m2 → P F α) {hl} :
    ((slot d false 2).view.loc (c : Thread nD τ) ↦[(slot d false 2).view.set]{fullShare} f : sProp 𝕄)
      ⊢ iprop((((slot d false 2).view.loc (c : Thread nD τ) ↦[(slot d false 2).view.set]{fullShare} f)
          -∗ wp frame (wpE (defs₀ (F := F)) 𝒱₀ (c : Thread nD τ) none) Set.univ (k ((xbuf d).view.readAt (Elt F) (xrect 2).toLoadRect f)) Q)
        -∗ wp frame (wpE (defs₀ (F := F)) 𝒱₀ (c : Thread nD τ) none) Set.univ (.op (.load (xbuf d) (xrect 2).toLoadRect hl) k) Q) :=
  wp_load (defs := defs₀ (F := F)) (Q := Q) (Γ := .empty) 𝒱₀ (c : Thread nD τ) none Set.univ (m := xbuf d) (r := (xrect 2).toLoadRect) (hl := hl) (k := k)
    (S := (slot d false 2).view.set) (q := fullShare) (f := f) (putX_access d 2)

/-- Storing the device's own block into the third slot for `x`. -/
theorem wp_putX {α : Type} (c : Dev nD) (Q : α → sProp 𝕄) (d : Bool) (f : Buf (Elt F) ((slot d false 2).view.loc (c : Thread nD τ))) (k : PUnit → P F α) {hx hm} :
    ((slot d false 2).view.loc (c : Thread nD τ) ↦[(slot d false 2).view.set]{fullShare} f : sProp 𝕄)
      ⊢ iprop((holds m d false 2 fullShare c c -∗ wp frame (wpE (defs₀ (F := F)) 𝒱₀ (c : Thread nD τ) none) Set.univ (k ⟨⟩) Q)
        -∗ wp frame (wpE (defs₀ (F := F)) 𝒱₀ (c : Thread nD τ) none) Set.univ
          (.op (.store (xbuf d) (xrect 2) (shapeCast S1x4096x128 (blkX m c) shapeCasts_S4096x128_S1x4096x128) Finset.univ hx hm) k) Q) := by
  rw [← holds_of_read m d false 2 fullShare c c _ (putX_read d 2 f (blkX m c))]
  exact wp_store (defs := defs₀ (F := F)) (Q := Q) (Γ := .empty) 𝒱₀ (c : Thread nD τ) none Set.univ (m := xbuf d) (r := xrect 2) (Mk := Finset.univ)
    (w := shapeCast S1x4096x128 (blkX m c) shapeCasts_S4096x128_S1x4096x128) (hx := hx) (hm := hm) (k := k) (S := (slot d false 2).view.set) (f := f) (putX_subset d 2)

/-- The device's own block of `x`, put into the third slot. -/
theorem tri_putX (d : Bool) (c : Dev nD) (v : FVec F S1x4096x128 .fp8e5m2) (hv : v = shapeCast S1x4096x128 (blkX m c) shapeCasts_S4096x128_S1x4096x128) :
    Tri m K c (anything d false 2 c) (putX d v) (holds m d false 2 fullShare c c) := by
  intro α k Q
  subst hv
  unfold putX anything
  simp only [Prog.lift, Prog.bind_op, Prog.bind_ret]
  iintro ⟨-, ⟨%f, H⟩, Hk⟩
  iapply (wp_peekX c Q d f _) $$ H
  iintro H
  iapply (wp_putX m c Q d f _) $$ H
  iintro H
  iapply Hk
  iexact H

/-- Loading from the third slot for `w_mat`, whatever it holds. -/
theorem wp_peekW {α : Type} (c : Dev nD) (Q : α → sProp 𝕄) (d : Bool) (f : Buf (Elt F) ((slot d true 2).view.loc (c : Thread nD τ))) (k : Vec F S1x128x8192 .fp8e5m2 → P F α) {hl} :
    ((slot d true 2).view.loc (c : Thread nD τ) ↦[(slot d true 2).view.set]{fullShare} f : sProp 𝕄)
      ⊢ iprop((((slot d true 2).view.loc (c : Thread nD τ) ↦[(slot d true 2).view.set]{fullShare} f)
          -∗ wp frame (wpE (defs₀ (F := F)) 𝒱₀ (c : Thread nD τ) none) Set.univ (k ((wbuf d).view.readAt (Elt F) (wrect 2).toLoadRect f)) Q)
        -∗ wp frame (wpE (defs₀ (F := F)) 𝒱₀ (c : Thread nD τ) none) Set.univ (.op (.load (wbuf d) (wrect 2).toLoadRect hl) k) Q) :=
  wp_load (defs := defs₀ (F := F)) (Q := Q) (Γ := .empty) 𝒱₀ (c : Thread nD τ) none Set.univ (m := wbuf d) (r := (wrect 2).toLoadRect) (hl := hl) (k := k)
    (S := (slot d true 2).view.set) (q := fullShare) (f := f) (full_subset d 2)

/-- Storing the device's own block into the third slot for `w_mat`. -/
theorem wp_putW {α : Type} (c : Dev nD) (Q : α → sProp 𝕄) (d : Bool) (f : Buf (Elt F) ((slot d true 2).view.loc (c : Thread nD τ))) (k : PUnit → P F α) {hx hm} :
    ((slot d true 2).view.loc (c : Thread nD τ) ↦[(slot d true 2).view.set]{fullShare} f : sProp 𝕄)
      ⊢ iprop((holds m d true 2 fullShare c c -∗ wp frame (wpE (defs₀ (F := F)) 𝒱₀ (c : Thread nD τ) none) Set.univ (k ⟨⟩) Q)
        -∗ wp frame (wpE (defs₀ (F := F)) 𝒱₀ (c : Thread nD τ) none) Set.univ
          (.op (.store (wbuf d) (wrect 2) (shapeCast S1x128x8192 (blkW m c) shapeCasts_S128x8192_S1x128x8192) Finset.univ hx hm) k) Q) := by
  rw [← holds_of_read m d true 2 fullShare c c _ (putW_read d 2 f (blkW m c))]
  exact wp_store (defs := defs₀ (F := F)) (Q := Q) (Γ := .empty) 𝒱₀ (c : Thread nD τ) none Set.univ (m := wbuf d) (r := wrect 2) (Mk := Finset.univ)
    (w := shapeCast S1x128x8192 (blkW m c) shapeCasts_S128x8192_S1x128x8192) (hx := hx) (hm := hm) (k := k) (S := (slot d true 2).view.set) (f := f) (putW_subset d 2)

/-- The device's own block of `w_mat`, put into the third slot. -/
theorem tri_putW (d : Bool) (c : Dev nD) (v : FVec F S1x128x8192 .fp8e5m2) (hv : v = shapeCast S1x128x8192 (blkW m c) shapeCasts_S128x8192_S1x128x8192) :
    Tri m K c (anything d true 2 c) (putW d v) (holds m d true 2 fullShare c c) := by
  intro α k Q
  subst hv
  unfold putW anything
  simp only [Prog.lift, Prog.bind_op, Prog.bind_ret]
  iintro ⟨-, ⟨%f, H⟩, Hk⟩
  iapply (wp_peekW c Q d f _) $$ H
  iintro H
  iapply (wp_putW m c Q d f _) $$ H
  iintro H
  iapply Hk
  iexact H

/-- The cast of the block of `x` to the type it has is the block. -/
theorem pay2_eq (X : Vec F S4096x128 .fp8e5m2) : k0_pay2 X = X := shapeCast_self _ _
/-- The cast of the block of `w_mat` to the type it has is the block. -/
theorem pay3_eq (W : Vec F S128x8192 .fp8e5m2) : k0_pay3 W = W := shapeCast_self _ _

abbrev xfull : Rect S4096x128 := Rect.unit (s := S4096x128) ![0, 0] S4096x128.size inb_S4096x128_S4096x128_0_0

/-- The device's own blocks, in slot 2 of both directions. -/
def ownSlots (c : Dev nD) : sProp 𝕄 := iprop((both fun b => holds m false b 2 fullShare c c) ∗ (both fun b => holds m true b 2 fullShare c c))

/-- The device's own blocks go into the third slots of both directions, and their product into the result buffer. -/
theorem tri_own (c : Dev nD) (v : Vec F S128x8192 .f32) :
    Tri m K c iprop((xPt m c ∗ wPt m c) ∗ ((both fun b => anything false b 2 c) ∗ (both fun b => anything true b 2 c)) ∗ outPt c v)
      (ownP c)
      iprop((xPt m c ∗ wPt m c) ∗ ownSlots m c ∗ outPt c (outV m c 0)) := by
  intro α k Q
  unfold ownP xPt wPt ownSlots both
  simp only [Prog.lift, Prog.bind_op, Prog.bind_ret]
  iintro ⟨#HR, ⟨⟨Hx, Hw⟩, ⟨⟨A0, A1⟩, ⟨B0, B1⟩⟩, Hout⟩, Hk⟩
  iapply (wp_load (defs := defs₀ (F := F)) (Q := Q) (Γ := .empty) 𝒱₀ (c : Thread nD τ) none Set.univ (m := xstgM) (r := xfull.toLoadRect)
    (S := Finset.univ) (q := fullShare) (f := blkX m c) (Finset.subset_univ _)) $$ Hx
  iintro Hx
  rw [show (xstgM : Memref sig .tc .vmem S4096x128 .fp8e5m2).view.readAt (Elt F) xfull.toLoadRect (blkX m c) = blkX m c from
    Memref.readAt_unit_zero (Elt F) cc0_stg0_0 zeros2 _ (blkX m c)]
  iapply (wp_load (defs := defs₀ (F := F)) (Q := Q) (Γ := .empty) 𝒱₀ (c : Thread nD τ) none Set.univ (m := wstgM) (r := orect.toLoadRect)
    (S := Finset.univ) (q := fullShare) (f := blkW m c) (Finset.subset_univ _)) $$ Hw
  iintro Hw
  rw [show (wstgM : Memref sig .tc .vmem S128x8192 .fp8e5m2).view.readAt (Elt F) orect.toLoadRect (blkW m c) = blkW m c from
    Memref.readAt_unit_zero (Elt F) cc0_stg1_0 zeros2 _ (blkW m c)]
  simp only [bind_assoc]
  iapply (tri_putX m K false c _ (by unfold k0_pay4; rw [pay2_eq]) α _ Q)
  isplitr; · iexact HR
  isplitl [A0]; · iexact A0
  iintro A0
  iapply (tri_putW m K false c _ (by unfold k0_pay5; rw [pay3_eq]) α _ Q)
  isplitr; · iexact HR
  isplitl [A1]; · iexact A1
  iintro A1
  iapply (tri_putX m K true c _ (by unfold k0_pay6; rw [pay2_eq]) α _ Q)
  isplitr; · iexact HR
  isplitl [B0]; · iexact B0
  iintro B0
  iapply (tri_putW m K true c _ (by unfold k0_pay7; rw [pay3_eq]) α _ Q)
  isplitr; · iexact HR
  isplitl [B1]; · iexact B1
  iintro B1
  simp only [Prog.bind_op, Prog.bind_ret]
  iapply (wp_read_tile m c Q false 2 fullShare c _) $$ A0; iintro A0
  iapply (wp_read_full m c Q false 2 fullShare c _) $$ A1; iintro A1
  iapply (wp_read_out c Q v _) $$ Hout; iintro Hout
  iapply (wp_write_out c Q v _ _) $$ Hout; iintro Hout
  iapply Hk
  isplitl [Hx Hw]; · isplitl [Hx] <;> iassumption
  isplitl [A0 A1 B0 B1]
  · isplitl [A0 A1]; · isplitl [A0] <;> iassumption
    isplitl [B0] <;> iassumption
  iexact Hout

/-! ## The end -/

/-- The scale factors of the device, as staged, and their values. -/
def blkA (o : Dev nD) : FVec F S1 .f32 := (win0_2.blk (0 : Fin 1)).view.read (Elt F) (m ((o : Thread nD τ).loc main_arg2))
def blkB (o : Dev nD) : FVec F S1 .f32 := (win0_3.blk (0 : Fin 1)).view.read (Elt F) (m ((o : Thread nD τ).loc main_arg3))
def aPt (c : Dev nD) : sProp 𝕄 := ((c : Thread nD τ).loc cc0_stg2_0) ↦{fullShare} (blkA m c : Vec F S1 .f32)
def bPt (c : Dev nD) : sProp 𝕄 := ((c : Thread nD τ).loc cc0_stg3_0) ↦{fullShare} (blkB m c : Vec F S1 .f32)

abbrev one1 : S1.Idx := Shape.Idx.first (Nat.lt_of_lt_of_eq Nat.one_pos numel1_S1.symm)
/-- An array of one element has one index. -/
theorem one1_eq (i : S1.Idx) : i = one1 := by
  funext a
  match a with
  | ⟨0, _⟩ => exact Subsingleton.elim (α := Fin 1) _ _

/-- The result of device `c`. -/
def finV (c : Dev nD) : Vec F S128x8192 .f32 :=
  k0_pay1 (k0_pay49 (blkA m c one1) (blkB m c one1)) (addBlk m c (org false 16 c) (outV m c 16))

abbrev r1 : Rect S1 := Rect.unit (s := S1) ![0] S1.size inb_S1_S1_0

/-- The scaling and the activation, on the finished sum. -/
theorem tri_close (c : Dev nD) (v : Vec F S128x8192 .f32) :
    Tri m K c iprop((aPt m c ∗ bPt m c) ∗ outPt c v) closeP
      iprop((aPt m c ∗ bPt m c) ∗ outPt c (k0_pay1 (k0_pay49 (blkA m c one1) (blkB m c one1)) v)) := by
  intro α k Q
  unfold closeP aPt bPt smemLoad smemLoadElt
  simp only [Prog.bind_op, Prog.bind_ret]
  iintro ⟨#HR, ⟨⟨Ha, Hb⟩, Hout⟩, Hk⟩
  iapply (wp_load_rect (defs := defs₀ (F := F)) (Q := Q) (Γ := .empty) 𝒱₀ (c : Thread nD τ) none Set.univ (m := sxM) (r := r1)
    (S := Finset.univ) (q := fullShare) (f := blkA m c) (Finset.subset_univ _)) $$ Ha
  iintro Ha
  iapply (wp_load_rect (defs := defs₀ (F := F)) (Q := Q) (Γ := .empty) 𝒱₀ (c : Thread nD τ) none Set.univ (m := swM) (r := r1)
    (S := Finset.univ) (q := fullShare) (f := blkB m c) (Finset.subset_univ _)) $$ Hb
  iintro Hb
  rw [show (sxM.access r1).read (Elt F) (blkA m c) (Shape.Idx.first _) = blkA m c one1 from congrArg (blkA m c) (one1_eq _),
    show (swM.access r1).read (Elt F) (blkB m c) (Shape.Idx.first _) = blkB m c one1 from congrArg (blkB m c) (one1_eq _)]
  iapply (tri_bump m K c _ v α k Q)
  isplitr; · iexact HR
  isplitl [Hout]; · iexact Hout
  iintro Hout
  iapply Hk
  isplitl [Ha Hb]; · isplitl [Ha] <;> iassumption
  iexact Hout

end Cert.Ring

end
-- ==== Proof.Body.lean ====
/- The whole body of a device: the handshake, the hops and the end put together; and the resources it starts from and ends
   with. -/
module

public import proofs.«01_k».proof.Proof.Open

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)
variable (K : Dev nD × Cel → ℕ)

/-- The tokens and credits a device starts from. -/
def dealt (c : Dev nD) : sProp 𝕄 :=
  iprop((dutyTok ER (cell (nxt false c) .bar) 0 true ∗ dutyTok ER (cell (nxt true c) .bar) 0 false) ∗ cred (tallyAt (cell c .bar) 0 2) ∗ kitsFrom c 16 0)
/-- Its positions at its own cells: the barrier at round `r`, the left direction at hop `h`, the right one at hop `h'`. -/
def stands (c : Dev nD) (r h h' : ℕ) : sProp 𝕄 :=
  iprop(atPos ER (cell c .bar) r ∅ 0 ∗ (atCr false c h ∗ pos false c h) ∗ (atCr true c h' ∗ pos true c h'))
/-- All its slots, holding anything. -/
def slots0 (c : Dev nD) : sProp 𝕄 :=
  iprop((freeSlots false c ∗ freeSlots true c) ∗ ((both fun b => anything false b 2 c) ∗ (both fun b => anything true b 2 c)))
/-- The staged inputs. -/
def staged (c : Dev nD) : sProp 𝕄 := iprop((xPt m c ∗ wPt m c) ∗ (aPt m c ∗ bPt m c))

/-- The third slot with the device's own block is the source of hop 0. -/
theorem own_inSrc (d : Bool) (c : Dev nD) : (both (fun b => holds m d b 2 fullShare c c) : sProp 𝕄) = inSrc m d fullShare c 0 := rfl

/-- A direction at its first hop. -/
theorem dirAt_zero (d : Bool) (c : Dev nD) :
    iprop((both fun b => holds m d b 2 fullShare c c) ∗ early d c 0 ∗ atCr d c 0 ∗ pos d c 0) ⊢ dirAt m d c 0 := by
  have e : 0 ≠ hops d := by cases d <;> decide
  unfold dirAt kept
  rw [own_inSrc, decide_eq_false (by omega : ¬ 1 ≤ 0), decide_eq_false e]
  unfold whenR
  simp only [cond_false]
  iintro ⟨H, He, Ha, Hp⟩
  isplitl [H]; · iexact H
  isplitl [He]; · iexact He
  isplitl [Ha]; · iexact Ha
  isplitr
  · isplitr <;> iempintro
  iexact Hp

/-- A direction after its last hop: its slots and positions. -/
theorem dirAt_last (d : Bool) (c : Dev nD) :
    dirAt m d c (hops d) ⊢ iprop((freeSlots d c ∗ both fun b => anything d b 2 c) ∗ (atCr d c (hops d) ∗ pos d c (hops d))) := by
  unfold dirAt kept inSrc freeSlots
  rw [decide_eq_true (show 1 ≤ hops d by cases d <;> decide), decide_eq_true rfl]
  unfold whenR both
  simp only [cond_true]
  iintro ⟨⟨Hx, Hw⟩, -, Ha, ⟨⟨Kx, Kw⟩, ⟨Lx, Lw⟩⟩, Hp⟩
  ihave Hx := (holds_anything m d false (src (hops d)) c (org d (hops d) c)) $$ Hx
  ihave Hw := (holds_anything m d true (src (hops d)) c (org d (hops d) c)) $$ Hw
  isplitr [Ha Hp]
  · isplitr [Kx Kw]
    · cases d
      · isplitl [Hx Lx]
        · isplitl [Hx]; · iexact Hx
          iexact Lx
        · isplitl [Hw]; · iexact Hw
          iexact Lw
      · isplitl [Hx Lx]
        · isplitl [Lx]; · iexact Lx
          iexact Hx
        · isplitl [Lw]; · iexact Lw
          iexact Hw
    · isplitl [Kx] <;> iassumption
  · isplitl [Ha] <;> iassumption

/-- The whole body of a device: from its credits, slots and staged blocks to its finished block of the result, with nothing owed. -/
theorem tri_dev (c : Dev nD) (v : Vec F S128x8192 .f32) :
    Tri m K c iprop(dealt c ∗ stands c 0 0 0 ∗ slots0 c ∗ staged m c ∗ outPt c v ∗ owesSt c dAll)
      (devP c (leftOf c) (rightOf c))
      iprop(stands c 1 16 15 ∗ slots0 c ∗ staged m c ∗ outPt c (finV m c) ∗ owesSt c []) := by
  intro α k Q
  unfold devP dealt stands slots0 staged
  simp only [bind_assoc]
  iintro ⟨#HR, ⟨⟨HT, Hcb, Hkits⟩, ⟨Hab, ⟨Hc0, Hp0⟩, ⟨Hc1, Hp1⟩⟩, ⟨Hfree, Hown⟩, ⟨Hxw, Hss⟩, Hout, Ho⟩, Hk⟩
  iapply (tri_greet m K c α _ Q)
  isplitr; · iexact HR
  isplitl [HT Hfree Hcb Hab Ho]
  · isplitl [HT]; · iexact HT
    isplitl [Hfree]; · iexact Hfree
    isplitl [Hcb]; · iexact Hcb
    isplitl [Hab] <;> iassumption
  iintro ⟨E0, E1, Hab, Ho⟩
  iapply (tri_own m K c v α _ Q)
  isplitr; · iexact HR
  isplitl [Hxw Hown Hout]
  · isplitl [Hxw]; · iexact Hxw
    isplitl [Hown] <;> iassumption
  unfold ownSlots
  iintro ⟨Hxw, ⟨S0, S1⟩, Hout⟩
  ihave D0 := (dirAt_zero m false c) $$ [S0 E0 Hc0 Hp0]
  · isplitl [S0]; · iexact S0
    isplitl [E0]; · iexact E0
    isplitl [Hc0] <;> iassumption
  ihave D1 := (dirAt_zero m true c) $$ [S1 E1 Hc1 Hp1]
  · isplitl [S1]; · iexact S1
    isplitl [E1]; · iexact E1
    isplitl [Hc1] <;> iassumption
  iapply (hops_run m K c 16 0 rfl α _ Q)
  isplitr; · iexact HR
  isplitl [D0 D1 Hkits Hout Ho]
  · isplitl [D0]; · iexact D0
    isplitl [D1]; · iexact D1
    isplitl [Hkits]; · iexact Hkits
    isplitl [Hout] <;> iassumption
  unfold dirAt
  iintro ⟨⟨S0, R0⟩, D1, Hout, Ho⟩
  unfold inSrc
  iapply (tri_accum m K false 0 fullShare c (org false 16 c) (outV m c 16) α _ Q)
  isplitr; · iexact HR
  isplitl [S0 Hout]
  · isplitl [S0]; · iexact S0
    iexact Hout
  iintro ⟨S0, Hout⟩
  ihave D0 := (dirAt_last m false c) $$ [S0 R0]
  · unfold dirAt inSrc
    isplitl [S0]; · iexact S0
    iexact R0
  ihave D1' := (dirAt_last m true c) $$ [D1]
  · unfold dirAt inSrc
    iexact D1
  icases D0 with ⟨⟨F0, O0⟩, A0⟩
  icases D1' with ⟨⟨F1, O1⟩, A1⟩
  iapply (tri_close m K c _ α k Q)
  isplitr; · iexact HR
  isplitl [Hss Hout]
  · isplitl [Hss] <;> iassumption
  iintro ⟨Hss, Hout⟩
  iapply Hk
  isplitl [Hab A0 A1]
  · isplitl [Hab]; · iexact Hab
    isplitl [A0]; · iexact A0
    iexact A1
  isplitl [F0 F1 O0 O1]
  · isplitl [F0 F1]
    · isplitl [F0] <;> iassumption
    · isplitl [O0] <;> iassumption
  isplitl [Hxw Hss]
  · isplitl [Hxw] <;> iassumption
  isplitl [Hout]
  · unfold finV; iexact Hout
  iexact Ho

/-! ## The buffers, and the cells closed -/

/-- The four buffers of slots. -/
def bufs0 (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The four buffers at the start, cut into their slots. -/
theorem bufs_slots (c : Dev nD) : (bufs0 c : sProp 𝕄) ⊢ slots0 c := by
  unfold bufs0 slots0 freeSlots both
  iintro ⟨H0, H1, H2, H3⟩
  ihave G0 := (buf_slots (F := F) false false c).1 $$ H0
  ihave G1 := (buf_slots (F := F) false true c).1 $$ H1
  ihave G2 := (buf_slots (F := F) true false c).1 $$ H2
  ihave G3 := (buf_slots (F := F) true true c).1 $$ H3
  icases G0 with ⟨a0, b0, c0⟩
  icases G1 with ⟨a1, b1, c1⟩
  icases G2 with ⟨a2, b2, c2⟩
  icases G3 with ⟨a3, b3, c3⟩
  isplitl [a0 b0 a1 b1 a2 b2 a3 b3]
  · isplitl [a0 b0 a1 b1]
    · isplitl [a0 b0]
      · isplitl [a0] <;> iassumption
      · isplitl [a1] <;> iassumption
    · isplitl [a2 b2]
      · isplitl [a2] <;> iassumption
      · isplitl [a3] <;> iassumption
  · isplitl [c0 c1]
    · isplitl [c0] <;> iassumption
    · isplitl [c2] <;> iassumption

/-- The slots put together again into the four buffers. -/
theorem slots_bufs (c : Dev nD) : (slots0 c : sProp 𝕄) ⊢ bufs0 c := by
  unfold bufs0 slots0 freeSlots both
  iintro ⟨⟨⟨⟨a0, b0⟩, ⟨a1, b1⟩⟩, ⟨⟨a2, b2⟩, ⟨a3, b3⟩⟩⟩, ⟨⟨c0, c1⟩, ⟨c2, c3⟩⟩⟩
  isplitl [a0 b0 c0]
  · iapply (buf_slots (F := F) false false c).2
    isplitl [a0]; · iexact a0
    isplitl [b0] <;> iassumption
  isplitl [a1 b1 c1]
  · iapply (buf_slots (F := F) false true c).2
    isplitl [a1]; · iexact a1
    isplitl [b1] <;> iassumption
  isplitl [a2 b2 c2]
  · iapply (buf_slots (F := F) true false c).2
    isplitl [a2]; · iexact a2
    isplitl [b2] <;> iassumption
  · iapply (buf_slots (F := F) true true c).2
    isplitl [a3]; · iexact a3
    isplitl [b3] <;> iassumption

/-- The round from which a cell has no duties left. -/
def lastRound : Cel → ℕ
  | .bar => 1
  | .cr d => hops d - 2
  | .sn d _ p => (hops d + 1 - p.val) / 2
  | .rv d _ q => (hops d + q.val) / 2

/-- After a cell's last round nothing is due on it. -/
theorem duties_last (k : Cel) (r : ℕ) (h : lastRound k ≤ r) : duties' (some k) r = ∅ := by
  cases k with
  | bar => exact if_neg (by have : 1 ≤ r := h; omega)
  | cr d => exact if_neg (by have : hops d - 2 ≤ r := h; omega)
  | sn d b p => exact if_neg (by have : (hops d + 1 - p.val) / 2 ≤ r := h; have := p.isLt; omega)
  | rv d b q => exact if_neg (by have : (hops d + q.val) / 2 ≤ r := h; have := q.isLt; omega)

/-- A cell after its last round gives its semaphore back, at zero. -/
theorem close_cell (c : Dev nD) (k : Cel) :
    iprop(recs m K ∗ atPos ER (cell c k) (lastRound k) ∅ 0) ⊢ (iprop(|={Set.univ}=> semVal (cell c k) 0) : sProp 𝕄) :=
  (sep_mono_left (recs_inv m K c k)).trans
    (Rounds.cell_close ER (sched m) (Set.mem_univ (K (c, k))) (fun h => h) (fun r hr => (duties_cell m c k r).trans (duties_last k r hr)))

/-- The cells in a list. -/
def celList : List Cel :=
  [.bar, .cr false, .cr true,
    .sn false false 0, .sn false false 1, .sn false true 0, .sn false true 1, .sn true false 0, .sn true false 1, .sn true true 0, .sn true true 1,
    .rv false false 0, .rv false false 1, .rv false true 0, .rv false true 1, .rv true false 0, .rv true false 1, .rv true true 0, .rv true true 1]
/-- A product over the cells of a device, written out. -/
theorem bigSep_cel (Φ : Cel → sProp 𝕄) : bigSep Finset.univ Φ
    = iprop(Φ .bar ∗ Φ (.cr false) ∗ Φ (.cr true)
      ∗ Φ (.sn false false 0) ∗ Φ (.sn false false 1) ∗ Φ (.sn false true 0) ∗ Φ (.sn false true 1)
      ∗ Φ (.sn true false 0) ∗ Φ (.sn true false 1) ∗ Φ (.sn true true 0) ∗ Φ (.sn true true 1)
      ∗ Φ (.rv false false 0) ∗ Φ (.rv false false 1) ∗ Φ (.rv false true 0) ∗ Φ (.rv false true 1)
      ∗ Φ (.rv true false 0) ∗ Φ (.rv true false 1) ∗ Φ (.rv true true 0) ∗ Φ (.rv true true 1)) :=
  bigSep_univ_eq_bigSepL celList (by decide) (by decide) Φ

/-- The start: every cell at round 0. -/
theorem stands_zero (c : Dev nD) : iprop(recs m K ∗ bigSep Finset.univ fun k : Cel => atPos ER (cell c k) 0 ∅ 0) ⊢ (stands c 0 0 0 : sProp 𝕄) := by
  have hr : ∀ k : Cel, iprop(recs m K ∗ atPos ER (cell c k) 0 ∅ 0) ⊢ (iprop(atPos ER (cell c k) 0 ∅ 0 ∗ reached ER (cell c k) 0) : sProp 𝕄) := fun k => by
    iintro ⟨#HR, H⟩
    isplitl [H]; · iexact H
    iapply (recs_zero m K c k); iexact HR
  have hp : ∀ d b : Bool, iprop(recs m K ∗ ((atPos ER (cell c (.sn d b 0)) 0 ∅ 0 ∗ atPos ER (cell c (.sn d b 1)) 0 ∅ 0)
      ∗ (atPos ER (cell c (.rv d b 0)) 0 ∅ 0 ∗ atPos ER (cell c (.rv d b 1)) 0 ∅ 0)))
      ⊢ (iprop((atSn d b c 0 ∗ atSn d b c (0 + 1)) ∗ (atRv d b c 0 ∗ atRv d b c (0 + 1))) : sProp 𝕄) := fun d b => by
    unfold atSn atRv
    iintro ⟨#HR, ⟨⟨H0, H1⟩, ⟨H2, H3⟩⟩⟩
    ihave H0 := (hr (.sn d b 0)) $$ [H0]
    · isplitr; · iexact HR
      iexact H0
    ihave H1 := (hr (.sn d b 1)) $$ [H1]
    · isplitr; · iexact HR
      iexact H1
    ihave H2 := (hr (.rv d b 0)) $$ [H2]
    · isplitr; · iexact HR
      iexact H2
    ihave H3 := (hr (.rv d b 1)) $$ [H3]
    · isplitr; · iexact HR
      iexact H3
    isplitl [H0 H1]
    · isplitl [H0]; · iexact H0
      iexact H1
    · isplitl [H3]; · iexact H3
      iexact H2
  rw [bigSep_cel]
  unfold stands pos both atCr
  iintro ⟨#HR, B, C0, C1, s0, s1, s2, s3, s4, s5, s6, s7, v0, v1, v2, v3, v4, v5, v6, v7⟩
  isplitl [B]; · iexact B
  isplitl [C0 s0 s1 s2 s3 v0 v1 v2 v3]
  · isplitl [C0]; · iexact C0
    isplitl [s0 s1 v0 v1]
    · iapply (hp false false)
      isplitr; · iexact HR
      isplitl [s0 s1]; · isplitl [s0] <;> iassumption
      isplitl [v0] <;> iassumption
    · iapply (hp false true)
      isplitr; · iexact HR
      isplitl [s2 s3]; · isplitl [s2] <;> iassumption
      isplitl [v2] <;> iassumption
  · isplitl [C1]; · iexact C1
    isplitl [s4 s5 v4 v5]
    · iapply (hp true false)
      isplitr; · iexact HR
      isplitl [s4 s5]; · isplitl [s4] <;> iassumption
      isplitl [v4] <;> iassumption
    · iapply (hp true true)
      isplitr; · iexact HR
      isplitl [s6 s7]; · isplitl [s6] <;> iassumption
      isplitl [v6] <;> iassumption

/-- The end: every cell past its last round. -/
theorem stands_last (c : Dev nD) : (stands c 1 16 15 : sProp 𝕄) ⊢ bigSep Finset.univ fun k : Cel => atPos ER (cell c k) (lastRound k) ∅ 0 := by
  rw [bigSep_cel]
  unfold stands pos both atCr atSn atRv
  iintro ⟨B, ⟨C0, ⟨⟨⟨⟨s0, -⟩, ⟨s1, -⟩⟩, ⟨⟨v1, -⟩, ⟨v0, -⟩⟩⟩, ⟨⟨⟨s2, -⟩, ⟨s3, -⟩⟩, ⟨⟨v3, -⟩, ⟨v2, -⟩⟩⟩⟩⟩,
    ⟨C1, ⟨⟨⟨⟨s5, -⟩, ⟨s4, -⟩⟩, ⟨⟨v4, -⟩, ⟨v5, -⟩⟩⟩, ⟨⟨⟨s7, -⟩, ⟨s6, -⟩⟩, ⟨⟨v6, -⟩, ⟨v7, -⟩⟩⟩⟩⟩⟩
  isplitl [B]; · iexact B
  isplitl [C0]; · iexact C0
  isplitl [C1]; · iexact C1
  isplitl [s0]; · iexact s0
  isplitl [s1]; · iexact s1
  isplitl [s2]; · iexact s2
  isplitl [s3]; · iexact s3
  isplitl [s4]; · iexact s4
  isplitl [s5]; · iexact s5
  isplitl [s6]; · iexact s6
  isplitl [s7]; · iexact s7
  isplitl [v0]; · iexact v0
  isplitl [v1]; · iexact v1
  isplitl [v2]; · iexact v2
  isplitl [v3]; · iexact v3
  isplitl [v4]; · iexact v4
  isplitl [v5]; · iexact v5
  isplitl [v6]; · iexact v6
  iexact v7

/-- A fact that may be used again and again serves every factor of a product. -/
theorem bigSep_with {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- At the end of the body all semaphores of a device are at zero. -/
theorem close_all (c : Dev nD) :
    iprop(recs m K ∗ stands c 1 16 15) ⊢ (iprop(|={Set.univ}=> bigSep Finset.univ fun k : Cel => semVal (cell c k) 0) : sProp 𝕄) :=
  ((sep_mono_right (stands_last c)).trans (bigSep_with fun k => close_cell m K c k)).trans (bigSep_fupd _ _)

end Cert.Ring

end
-- ==== Proof.Deal.lean ====
/- How the tokens and credits of the whole ring are dealt: each token to the device that pays with it, each credit to the
   device that is owed, and both sorted hop by hop. -/
module

public import proofs.«01_k».proof.Proof.Body
public import Idealize.ShloMosaic.Lib.Pipeline.BigSepL

@[expose] public section

noncomputable section

namespace Cert.Ring

open Cert.KernelIdeal Cert.KernelIdeal.Gen
open Idealize.ShloMosaic Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The tokens -/

/-- A token: its cell, its round and which duty of the round. -/
abbrev Tok : Type := Cel × ℕ × Bool

def tSend (d : Bool) (h : ℕ) : List Tok :=
  [(.sn d false (sp h), h / 2, false), (.sn d true (sp h), h / 2, false), (.rv d false (rp h), h / 2, false), (.rv d true (rp h), h / 2, false)]
def tGive (d : Bool) (h : ℕ) : List Tok := [(.cr d, h - 1, false)]
def tIf (b : Bool) (l : List Tok) : List Tok := if b = true then l else []
/-- The tokens a hop pays with. -/
def tHop (h : ℕ) : List Tok :=
  tSend false h ++ (tIf (decide (h < 15)) (tSend true h) ++ (tIf (decide (1 ≤ h ∧ h < 15)) (tGive false h) ++ tIf (decide (1 ≤ h ∧ h < 14)) (tGive true h)))
def tRest : ℕ → ℕ → List Tok
  | 0, _ => []
  | n + 1, h => tHop h ++ tRest n (h + 1)
def tAll : List Tok := (.bar, 0, true) :: (.bar, 0, false) :: tRest 16 0

/-- No token is listed twice. -/
theorem tAll_nodup : tAll.Nodup := by decide +kernel

/-- The ring turned one device on. -/
def turn (d : Bool) : Equiv.Perm (Dev nD) := ⟨nxt d, prv d, prv_nxt d, nxt_prv d⟩
/-- Whose cell a device's token is for. -/
def whose : Cel → Bool → Equiv.Perm (Dev nD)
  | .bar, d => turn (!d)
  | .cr d, _ => (turn d).symm
  | .rv d _ _, _ => turn d
  | .sn _ _ _, _ => Equiv.refl _

def tokAt (c : Dev nD) (t : Tok) : sProp 𝕄 := dutyTok ER (cell c t.1) t.2.1 t.2.2
def payAt (c : Dev nD) (t : Tok) : sProp 𝕄 := dutyTok ER (cell (whose t.1 t.2.2 c) t.1) t.2.1 t.2.2

/-- The tokens listed by the cell's owner are, over the whole ring, the tokens listed by the payer. -/
theorem toks_around (l : List Tok) :
    (bigSep Finset.univ fun c : Dev nD => (bigSepL l (tokAt c) : sProp 𝕄)) ⊢ bigSep Finset.univ fun c : Dev nD => bigSepL l (payAt c) := by
  induction l with
  | nil => exact .rfl
  | cons t l ih =>
    simp only [bigSepL_cons']
    rw [bigSep_sep', bigSep_sep', bigSep_univ_equiv (whose t.1 t.2.2) (fun c : Dev nD => (tokAt c t : sProp 𝕄))]
    exact sep_mono_right ih

/-! ## The credits -/

def credAt (c : Dev nD) (x : Debt) : sProp 𝕄 := cred (x.own c)

/-- The credit for a list of debts owed to a device, one by one. -/
theorem owns_credits (c : Dev nD) (l : List Debt) : (cred (owns' c l) : sProp 𝕄) ⊢ bigSepL l (credAt c) := by
  induction l with
  | nil =>
    show _ ⊢ iprop(emp)
    iintro -
    iempintro
  | cons x l ih =>
    rw [bigSepL_cons']
    unfold owns'
    refine (cred_add _ _).1.trans ?_
    iintro ⟨Hl, Hx⟩
    isplitl [Hx]; · unfold credAt; iexact Hx
    iapply ih
    iexact Hl

/-- What all devices owe is what they are owed. -/
theorem owed_sum (l : List Debt) : (∑ c : Dev nD, owed c l) = ∑ c : Dev nD, owns' c l := by
  induction l with
  | nil => rfl
  | cons x l ih =>
    show (∑ c : Dev nD, (owed c l + x.due c)) = ∑ c : Dev nD, (owns' c l + x.own c)
    rw [Finset.sum_add_distrib, Finset.sum_add_distrib, ih]
    congr 1
    exact Equiv.sum_comp (turn x.way) fun c => x.own c

/-- What is owed to a device is on cells of its own. -/
theorem owns_mine (c : Dev nD) (l : List Debt) (g : GSem nD τ sig) (h : owns' c l g ≠ 0) : g.1 = (c.tc : Thread nD τ) := by
  induction l with
  | nil => exact absurd rfl h
  | cons x l ih =>
    by_contra hne
    refine h ?_
    unfold owns'
    rw [Pi.add_apply, not_not.mp (fun e => hne (ih e)), zero_add]
    unfold Debt.own
    exact tallyAt_ne_cell (g := cell c x.cel) (g' := g) (fun e => hne (congrArg Prod.fst e)) x.ix _

/-! ## Hop by hop -/

/-- Tokens listed under a condition. -/
theorem listIf_pos {Φ : Tok → sProp 𝕄} (b : Bool) (l : List Tok) : bigSepL (tIf b l) Φ = whenR b (bigSepL l Φ) := by cases b <;> rfl
/-- Credits listed under a condition. -/
theorem listIf_pos' {Φ : Debt → sProp 𝕄} (b : Bool) (l : List Debt) : bigSepL (dIf b l) Φ = whenR b (bigSepL l Φ) := by cases b <;> rfl

/-- A hop's tokens for starting its two copies. -/
theorem deal_send (d : Bool) (c : Dev nD) (h : ℕ) : (bigSepL (tSend d h) (payAt c) : sProp 𝕄) ⊢ payKit d c h := by
  show iprop(payAt c (.sn d false (sp h), h / 2, false) ∗ payAt c (.sn d true (sp h), h / 2, false) ∗ payAt c (.rv d false (rp h), h / 2, false)
    ∗ payAt c (.rv d true (rp h), h / 2, false)) ⊢ _
  unfold payKit both payAt
  iintro ⟨H0, H1, H2, H3⟩
  isplitl [H0 H2]
  · isplitl [H0]; · iexact H0
    iexact H2
  · isplitl [H1]; · iexact H1
    iexact H3

/-- A hop's credits for the two arrivals. -/
theorem deal_get (d : Bool) (c : Dev nD) (h : ℕ) : (bigSepL (dSend d h) (credAt c) : sProp 𝕄) ⊢ getKit d c h := .rfl

/-- A hop's token for the signal that frees a slot. -/
theorem deal_give (d : Bool) (c : Dev nD) (h : ℕ) : (bigSepL (tGive d h) (payAt c) : sProp 𝕄) ⊢ dutyTok ER (cell (prv d c) (.cr d)) (h - 1) false := .rfl

/-- A hop's credit for the slot that a neighbour frees. -/
theorem deal_take (d : Bool) (c : Dev nD) (h : ℕ) : (bigSepL (dFree d h) (credAt c) : sProp 𝕄) ⊢ cred (tallyAt (cell c (.cr d)) (h + 1 - 2) 1) := .rfl

/-- A direction's tokens and credits of hop `h`. -/
theorem deal_dir (d : Bool) (c : Dev nD) (h : ℕ) :
    iprop(takeKit d c h ∗ bigSepL (dSend d h) (credAt c) ∗ bigSepL (tSend d h) (payAt c)
      ∗ whenR (decide (1 ≤ h ∧ h + 1 < hops d)) (bigSepL (tGive d h) (payAt c))) ⊢ (kit d c h : sProp 𝕄) := by
  unfold kit giveKit
  iintro ⟨Ht, Hg, Hp, Hv⟩
  isplitl [Hp]; · iapply (deal_send d c h); iexact Hp
  isplitl [Hg]; · iapply (deal_get d c h); iexact Hg
  isplitl [Ht]; · iexact Ht
  iexact Hv

/-- The slot freed in a hop is what the next hop takes. -/
theorem carry (d : Bool) (c : Dev nD) (h : ℕ) (hh : h + 1 < hops d) :
    whenR (decide (1 ≤ h ∧ h + 1 < hops d)) (bigSepL (dFree d h) (credAt c)) ⊢ (takeKit d c (h + 1) : sProp 𝕄) := by
  unfold takeKit
  have e : decide (1 ≤ h ∧ h + 1 < hops d) = decide (2 ≤ h + 1) := decide_eq_decide.mpr (by omega)
  rw [e]
  exact .rfl

/-- The credits of the slots freed, from hop `h` on. -/
def takeIf (d : Bool) (c : Dev nD) (h : ℕ) : sProp 𝕄 := whenR (decide (h < hops d)) (takeKit d c h)

/-- The same, with the conditions of both hops. -/
theorem carryIf (d : Bool) (c : Dev nD) (h : ℕ) :
    whenR (decide (1 ≤ h ∧ h + 1 < hops d)) (bigSepL (dFree d h) (credAt c)) ⊢ (takeIf d c (h + 1) : sProp 𝕄) := by
  unfold takeIf
  by_cases hh : h + 1 < hops d
  · rw [decide_eq_true hh]; exact carry d c h hh
  · rw [decide_eq_false hh]
    show _ ⊢ iprop(emp)
    iintro -
    iempintro

/-- One direction's tokens and credits in a hop. -/
theorem deal_dirIf (d : Bool) (c : Dev nD) (h : ℕ) :
    iprop(takeIf d c h ∗ whenR (decide (h < hops d)) (bigSepL (dSend d h) (credAt c)) ∗ whenR (decide (h < hops d)) (bigSepL (tSend d h) (payAt c))
      ∗ whenR (decide (1 ≤ h ∧ h + 1 < hops d)) (bigSepL (tGive d h) (payAt c))) ⊢ (whenR (decide (h < hops d)) (kit d c h) : sProp 𝕄) := by
  unfold takeIf
  by_cases hh : h < hops d
  · rw [decide_eq_true hh]; exact deal_dir d c h
  · rw [decide_eq_false hh]
    show _ ⊢ iprop(emp)
    iintro -
    iempintro

/-- The tokens and credits of all the hops from `h` on. -/
theorem deal_hops (c : Dev nD) (n : ℕ) : ∀ h : ℕ, h + n = 16 →
    iprop((takeIf false c h ∗ takeIf true c h) ∗ bigSepL (dRest n h) (credAt c) ∗ bigSepL (tRest n h) (payAt c)) ⊢ (kitsFrom c n h : sProp 𝕄) := by
  induction n with
  | zero =>
    intro h _
    show _ ⊢ iprop(emp)
    iintro -
    iempintro
  | succ n ih =>
    intro h hn
    have e0 : decide (h < hops false) = true := decide_eq_true (by show h < 16; omega)
    have hd0 := deal_dirIf (F := F) false c h
    have ht : ∀ R : sProp 𝕄, whenR true R = R := fun _ => rfl
    rw [e0] at hd0
    simp only [ht] at hd0
    have hd1 := deal_dirIf (F := F) true c h
    have hc0 := carryIf (F := F) false c h
    have hc1 := carryIf (F := F) true c h
    have e1 : decide (1 ≤ h ∧ h + 1 < hops false) = decide (1 ≤ h ∧ h < 15) := decide_eq_decide.mpr (by show (1 ≤ h ∧ h + 1 < 16) ↔ _; omega)
    rw [e1] at hd0 hc0
    have e2 : decide (1 ≤ h ∧ h + 1 < hops true) = decide (1 ≤ h ∧ h < 14) := decide_eq_decide.mpr (by show (1 ≤ h ∧ h + 1 < 15) ↔ _; omega)
    rw [e2] at hd1 hc1
    unfold dRest tRest dHop tHop kitsFrom kits
    simp only [bigSepL_append, listIf_pos, listIf_pos']
    iintro ⟨⟨T0, T1⟩, ⟨⟨D0, D1, F0, F1⟩, Dr⟩, ⟨⟨P0, P1, G0, G1⟩, Pr⟩⟩
    isplitr [F0 F1 Dr Pr]
    · isplitl [T0 D0 P0 G0]
      · iapply hd0
        isplitl [T0]; · iexact T0
        isplitl [D0]; · iexact D0
        isplitl [P0]; · iexact P0
        iexact G0
      · iapply hd1
        isplitl [T1]; · iexact T1
        isplitl [D1]; · iexact D1
        isplitl [P1]; · iexact P1
        iexact G1
    · iapply (ih (h + 1) (by omega))
      isplitl [F0 F1]
      · isplitl [F0]
        · iapply hc0; iexact F0
        · iapply hc1; iexact F1
      isplitl [Dr] <;> iassumption

/-- All a device starts from. -/
theorem deal_all (c : Dev nD) : iprop(cred (owns' c dAll) ∗ bigSepL tAll (payAt c)) ⊢ (dealt c : sProp 𝕄) := by
  refine (sep_mono_left (owns_credits c dAll)).trans ?_
  have hz : ∀ d, (iprop(emp) : sProp 𝕄) ⊢ takeIf d c 0 := fun d => by cases d <;> exact .rfl
  have hb : iprop(credAt c ⟨false, .bar, 0⟩ ∗ credAt c ⟨true, .bar, 0⟩) ⊢ (cred (tallyAt (cell c .bar) 0 2) : sProp 𝕄) := by
    have h := (cred_add (tallyAt (cell c .bar) 0 1) (tallyAt (cell c .bar) 0 1) : (_ : sProp 𝕄) ⊣⊢ _).2
    rw [tallyAt_add] at h
    exact h
  unfold dealt dAll tAll
  simp only [bigSepL_cons']
  iintro ⟨⟨C0, C1, Cr⟩, ⟨T0, T1, Tr⟩⟩
  isplitl [T0 T1]
  · unfold payAt
    isplitl [T0]; · iexact T0
    iexact T1
  isplitl [C0 C1]
  · iapply hb
    isplitl [C0]; · iexact C0
    iexact C1
  iapply (deal_hops c 16 0 rfl)
  isplitr
  · isplitr
    · iapply (hz false); iempintro
    · iapply (hz true); iempintro
  isplitl [Cr]; · iexact Cr
  iexact Tr

end Cert.Ring

end
-- ==== Proof.Launch.lean ====
/- The launch: the ring's cells and tokens made and dealt to the devices, the body of every device run, and what the whole
   program leaves behind. -/
module

public import proofs.«01_k».proof.Proof.Deal
public import proofs.«01_k».proof.Proof.Gen.KernelIdeal.Points
public import Idealize.ShloMosaic.Lib.Quiescent
public import Idealize.ShloMosaic.Lib.Pipeline.CollectiveSegs

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation ownSems0 launchCred)

variable {F : FTy → Type} [FloatOps F]

local notation "𝕄" => MT nD τ sig ℕ (Elt F) ℕ UU ℕ

variable (m : (ℓ : Loc nD τ sig) → Buf (Elt F) ℓ) (ρ : Dev nD → PrngReg)

/-! ## What each device starts from and ends with -/

def start (c : Dev nD) : sProp 𝕄 := iprop(∃ K, recs m K ∗ (bigSep Finset.univ fun k : Cel => atPos ER (cell c k) 0 ∅ 0) ∗ dealt c)
def atStart (c : Dev nD) : sProp 𝕄 := iprop(start m c ∗ bufs0 c)
def atEnd (c : Dev nD) : sProp 𝕄 := iprop(bufs0 c ∗ bigSep Finset.univ fun k : Cel => semVal (cell c k) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => blkX m c
    | ⟨1, _⟩ => blkW m c
    | ⟨2, _⟩ => blkA m c
    | ⟨3, _⟩ => blkB m c
    | ⟨4, _⟩ => finV m c
  Φ t := match t with
    | ⟨0, _⟩ => atStart m c
    | ⟨_ + 1, _⟩ => atEnd c
  q _ := fullShare
  owed t := match t with
    | ⟨0, _⟩ => owed c dAll
    | ⟨_ + 1, _⟩ => 0

/-! ## The body of one device -/

/-- Owning a whole buffer with given contents. -/
theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer of device `c` holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- A staged buffer, from the memory at its place. -/
theorem stg_intro (c : Dev nD) (b : Ref sig .tc) (X : b.ty.Contents (Elt F)) :
    ((((c : Thread nD τ).loc b) ↦{fullShare} (X : Buf (Elt F) ((c : Thread nD τ).loc b))) : sProp 𝕄) ⊢ stg c b X := by
  iintro H
  iexists X
  isplitr; · (ipureintro; rfl)
  iexact H

/-- The memory at its place, from a staged buffer. -/
theorem stg_elim (c : Dev nD) (b : Ref sig .tc) (X : b.ty.Contents (Elt F)) :
    (stg c b X : sProp 𝕄) ⊢ (((c : Thread nD τ).loc b) ↦{fullShare} (X : Buf (Elt F) ((c : Thread nD τ).loc b))) := by
  iintro ⟨%f, %h, H⟩
  subst h
  iexact H

def bodyPre (c : Dev nD) : sProp 𝕄 :=
  iprop(atStart m c ∗ (dats m ρ 0 c).owesAt 0 t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
def bodyPost (c : Dev nD) : sProp 𝕄 :=
  iprop(atEnd c ∗ (dats m ρ 0 c).owesAt 0 t0_0.succ ∗ stg c cc0_stg0_0 (blkX m c) ∗ stg c cc0_stg1_0 (blkW m c) ∗ stg c cc0_stg2_0 (blkA m c)
    ∗ stg c cc0_stg3_0 (blkB m c) ∗ stg c cc0_stg4_0 (finV m c))

/-- Before the body the first staged buffer holds the device's block of `x`. -/
theorem before_x (c : Dev nD) (d) : (dats m ρ 0 c).before (0 : Fin 5) t0_0 d = blkX m c := by
  unfold Dat.before; rw [if_pos (fetch0_0 t0_0)]; rfl
/-- Before the body the second staged buffer holds the device's block of `w_mat`. -/
theorem before_w (c : Dev nD) (d) : (dats m ρ 0 c).before (1 : Fin 5) t0_0 d = blkW m c := by
  unfold Dat.before; rw [if_pos (fetch0_1 t0_0)]; rfl
/-- Before the body the third staged buffer holds the first scale. -/
theorem before_a (c : Dev nD) (d) : (dats m ρ 0 c).before (2 : Fin 5) t0_0 d = blkA m c := by
  unfold Dat.before; rw [if_pos (fetch0_2 t0_0)]; rfl
/-- Before the body the fourth staged buffer holds the second scale. -/
theorem before_b (c : Dev nD) (d) : (dats m ρ 0 c).before (3 : Fin 5) t0_0 d = blkB m c := by
  unfold Dat.before; rw [if_pos (fetch0_3 t0_0)]; rfl

/-- A device's whole body, from what it starts with to what it leaves. -/
theorem body_run (c : Dev nD) :
    bodyPre m ρ c ⊢ wp frame (wpE (defs₀ (F := F)) 𝒱₀ (c : Thread nD τ) none) Set.univ (devP (F := F) c (leftOf c) (rightOf c)) (fun _ => bodyPost m ρ c) := by
  rw [← Prog.bind_pure (devP (F := F) c (leftOf c) (rightOf c))]
  unfold bodyPre atStart start
  iintro ⟨⟨⟨%K, #HR, Hat, Hd⟩, Hbufs⟩, Hoo, ⟨%d0, H0⟩, ⟨%d1, H1⟩, ⟨%d2, H2⟩, ⟨%d3, H3⟩, ⟨%d4, H4⟩⟩
  rw [before_x, before_w, before_a, before_b]
  ihave H0 := (stg_elim c cc0_stg0_0 (blkX m c)) $$ H0
  ihave H1 := (stg_elim c cc0_stg1_0 (blkW m c)) $$ H1
  ihave H2 := (stg_elim c cc0_stg2_0 (blkA m c)) $$ H2
  ihave H3 := (stg_elim c cc0_stg3_0 (blkB m c)) $$ H3
  icases H4 with ⟨%v, -, H4⟩
  ihave Hst := (stands_zero m K c) $$ [Hat]
  · isplitr; · iexact HR
    iexact Hat
  ihave Hs := (bufs_slots (F := F) c) $$ Hbufs
  unfold Dat.owesAt Pipeline.owesWithin
  icases Hoo with ⟨%W, %hW, Ho⟩
  rw [show (dats m ρ 0 c).owed t0_0.castSucc = owed c dAll from rfl]
  iapply (tri_dev m K c v PUnit pure (fun _ => bodyPost m ρ c))
  isplitr; · iexact HR
  isplitl [Hst Hs Hd H0 H1 H2 H3 H4 Ho]
  · isplitl [Hd]; · iexact Hd
    isplitl [Hst]; · iexact Hst
    isplitl [Hs]; · iexact Hs
    isplitl [H0 H1 H2 H3]
    · unfold staged xPt wPt aPt bPt
      isplitl [H0 H1]
      · isplitl [H0]; · iexact H0
        iexact H1
      · isplitl [H2]; · iexact H2
        iexact H3
    isplitl [H4]; · unfold outPt; iexact H4
    unfold owesSt
    iexists W
    iexact Ho
  unfold staged xPt wPt aPt bPt outPt owesSt
  iintro ⟨Hst, Hs, ⟨⟨H0, H1⟩, ⟨H2, H3⟩⟩, H4, ⟨%W', Ho⟩⟩
  ihave Hb := (slots_bufs (F := F) c) $$ Hs
  imod (close_all m K c) $$ [Hst] with Hz
  · isplitr; · iexact HR
    iexact Hst
  rw [Prog.pure_eq_ret, wp_ret]; imodintro
  unfold bodyPost atEnd Dat.owesAt Pipeline.owesWithin
  rw [show (dats m ρ 0 c).owed t0_0.succ = 0 from rfl]
  isplitl [Hb Hz]
  · isplitl [Hb]; · iexact Hb
    iexact Hz
  isplitl [Ho]
  · iexists W'
    isplitr; · ipureintro; exact fun _ _ => Or.inl trivial
    iexact Ho
  isplitl [H0]; · iapply (stg_intro c cc0_stg0_0 (blkX m c)); iexact H0
  isplitl [H1]; · iapply (stg_intro c cc0_stg1_0 (blkW m c)); iexact H1
  isplitl [H2]; · iapply (stg_intro c cc0_stg2_0 (blkA m c)); iexact H2
  isplitl [H3]; · iapply (stg_intro c cc0_stg3_0 (blkB m c)); iexact H3
  iapply (stg_intro c cc0_stg4_0 (finV m c)); iexact H4

set_option maxRecDepth 65536 in
/-- The body keeps what the launch asks of it. -/
theorem body_obligation (c : Dev nD) : BodyObligation (dats (F := F) m ρ 0 c) (defs₀ (F := F)) 𝒱₀ 0 Set.univ := fun t => by
  rw [fin_N0 t]
  rw [show ∀ Φ : Fin cfg0.W → sProp 𝕄, bigSep Finset.univ Φ = _ from bigSep_W0, show ∀ Φ : Fin cfg0.W → sProp 𝕄, bigSep Finset.univ Φ = _ from bigSep_W0]
  simp only [owns_whole]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8 cc0_scratch9 cc0_scratch10 cc0_scratch11
    cc0_scratch12 cc0_scratch13 : P F PUnit) (fun _ => bodyPost m ρ c)
  rw [body_eq]
  simp only [Prog.lift, Prog.bind_op, Prog.bind_ret, wp_deviceId]
  exact body_run m ρ c

/-! ## The launch's cells, tokens and credits -/

/-- The kernel's own semaphores: all but the barrier. -/
def ownList : List Cel := celList.tail
def osem (i : Fin 18) : SemLoc sig := csem (ownList.get i)

/-- The facts about the call's own semaphores. -/
theorem ownSemFacts : Pipeline.OwnSemFacts cfg0.spec osem := by decide +kernel

def ringCells : Finset (GSem nD τ sig) := Finset.univ.map ⟨fun x : Dev nD × Cel => cell x.1 x.2, cell_injective⟩

/-- A token of a device, among those dealt. -/
abbrev AnyTok : Type := { t : Tok // t ∈ tAll.toFinset }
def tokOf (x : Dev nD × AnyTok) : GSem nD τ sig × ℕ × Bool := (cell x.1 x.2.1.1, x.2.1.2.1, x.2.1.2.2)
/-- Different tokens have different names. -/
theorem tokOf_injective : Function.Injective tokOf := by
  rintro ⟨c, ⟨k, r, d⟩, ht⟩ ⟨c', ⟨k', r', d'⟩, ht'⟩ h
  have h1 := cell_injective (a₁ := (c, k)) (a₂ := (c', k')) (congrArg Prod.fst h)
  have h2 : (r, d) = (r', d') := congrArg Prod.snd h
  cases h1; cases h2; rfl
def ringToks : Finset (GSem nD τ sig × ℕ × Bool) := Finset.univ.map ⟨tokOf, tokOf_injective⟩

/-- A product over the members of a set, as a product over the set. -/
theorem bigSep_among (S : Finset Tok) (Φ : Tok → sProp 𝕄) : (bigSep Finset.univ fun x : { t : Tok // t ∈ S } => Φ x.1) = bigSep S Φ := by
  have h := bigSep_map (s := S.attach) (Function.Embedding.subtype fun t => t ∈ S) (Φ := Φ)
  rw [Finset.attach_map_val] at h
  rw [Finset.univ_eq_attach]
  exact h.symm

def u₀ : UU := (initOf (Pipeline.cells cfgs cellOf_inj) (Pipeline.launchToks cfgs cellOf_inj), initOf ringCells ringToks)

/-- What the launch gives device `c`: its own cells' states, positions and tokens. -/
def G (c : Dev nD) : sProp 𝕄 :=
  iprop((bigSep Finset.univ fun k : Cel => roundState ER (sched m) (cell c k) 0)
    ∗ ((bigSep Finset.univ fun k : Cel => atPos ER (cell c k) 0 ∅ 0) ∗ (bigSep Finset.univ fun k : Cel => reached ER (cell c k) 0)) ∗ bigSepL tAll (tokAt c))
/-- What it has after the exchange: all the records, its own positions, the tokens it pays with. -/
def G' (c : Dev nD) : sProp 𝕄 :=
  iprop(∃ K : Dev nD × Cel → ℕ, ((bigSep Finset.univ fun x : Dev nD × Cel => cellInv ER (sched m) (K x) (cell x.1 x.2))
    ∗ (bigSep Finset.univ fun x : Dev nD × Cel => reached ER (cell x.1 x.2) 0))
    ∗ (bigSep Finset.univ fun k : Cel => atPos ER (cell c k) 0 ∅ 0) ∗ bigSepL tAll (payAt c))

/-- The ring's state at the start pays for every device's positions and tokens. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cel => Φ (cell c k) := by
    unfold ringCells; rw [bigSep_map, bigSep_univ_prod]; rfl
  have hT : bigSep ringToks (fun x => (dutyTok ER x.1 x.2.1 x.2.2 : sProp 𝕄)) = bigSep Finset.univ fun c : Dev nD => bigSepL tAll (tokAt c) := by
    unfold ringToks; rw [bigSep_map, bigSep_univ_prod]
    exact bigSep_congr fun c _ => (bigSep_among tAll.toFinset (tokAt c)).trans (bigSep_eq_bigSepL_of_eq tAll rfl tAll_nodup _)
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The call's own semaphores of a device, as its cells other than the barrier's. -/
theorem ownSems_eq (c : Dev nD) : (ownSems0 (Ix := ℕ) (Name := ℕ) (U := UU) (Lvl := ℕ) (Val := Elt F) (τ := τ) osem c : sProp 𝕄)
    = bigSepL ownList fun k => semVal (cell c k) 0 := by
  rw [Pipeline.ownSems0_eq_of_list c osem [0, 1, 2, 3, 4, 5, 6, 7, 8, 9, 10, 11, 12, 13, 14, 15, 16, 17] (by decide) (by decide)]; rfl
/-- The semaphore outside the call is the barrier's. -/
theorem unscopedSems_eq (c : Dev nD) : (unscopedSems0 c : sProp 𝕄) = semVal (cell c .bar) 0 := by
  unfold unscopedSems0; rw [bigSep_eq_bigSepL_of_eq [SemLoc.reg barS] (by decide) (by decide)]; rfl

/-- The cells' counters are the barrier's and the kernel's own. -/
theorem sems_eq (c : Dev nD) : (bigSep Finset.univ fun k : Cel => semVal (cell c k) 0 : sProp 𝕄)
    = iprop(unscopedSems0 c ∗ ownSems0 (Ix := ℕ) (Name := ℕ) (U := UU) (Lvl := ℕ) (Val := Elt F) (τ := τ) osem c) := by
  rw [ownSems_eq, unscopedSems_eq]
  exact bigSep_cel _

/-- A device's cells get their invariants. -/
theorem core_alloc (c : Dev nD) :
    iprop(ownSems0 (Ix := ℕ) (Name := ℕ) (U := UU) (Lvl := ℕ) (Val := Elt F) (τ := τ) osem c ∗ unscopedSems0 c ∗ G m c)
      ⊢ |={Set.univ}=> iprop((bigSep Finset.univ fun k : Cel => iprop(∃ κ : ℕ, cellInv ER (sched m) κ (cell c k)))
          ∗ ((bigSep Finset.univ fun k : Cel => atPos ER (cell c k) 0 ∅ 0) ∗ (bigSep Finset.univ fun k : Cel => reached ER (cell c k) 0)) ∗ bigSepL tAll (tokAt c)) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Cel => semVal (cell c k) 0) ∗ bigSep Finset.univ fun k : Cel => roundState ER (sched m) (cell c k) 0)
      ⊢ (|={Set.univ}=> bigSep Finset.univ fun k : Cel => iprop(∃ κ : ℕ, cellInv ER (sched m) κ (cell c k)) : sProp 𝕄) from by
        rw [← bigSep_sep']
        exact (bigSep_mono fun k _ => (Rounds.body_intro ER (sched m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- What the devices have together, dealt so that every device has the shared facts and its own tokens. -/
theorem regroup :
    (bigSep Finset.univ fun c : Dev nD => iprop((bigSep Finset.univ fun k : Cel => iprop(∃ κ : ℕ, cellInv ER (sched m) κ (cell c k)))
          ∗ ((bigSep Finset.univ fun k : Cel => atPos ER (cell c k) 0 ∅ 0) ∗ (bigSep Finset.univ fun k : Cel => reached ER (cell c k) 0)) ∗ bigSepL tAll (tokAt c)) : sProp 𝕄)
      ⊢ bigSep Finset.univ (G' m) := by
  rw [bigSep_sep', bigSep_sep', bigSep_sep', ← bigSep_univ_prod (fun x : Dev nD × Cel => iprop(∃ κ : ℕ, cellInv ER (sched m) κ (cell x.1 x.2))),
    ← bigSep_univ_prod (fun x : Dev nD × Cel => (reached ER (cell x.1 x.2) 0 : sProp 𝕄))]
  iintro ⟨HI, ⟨Hat, #HR⟩, Htok⟩
  ihave HK := (BI.bigSep_exists_pi Finset.univ (fun (x : Dev nD × Cel) (κ : ℕ) => (cellInv ER (sched m) κ (cell x.1 x.2) : sProp 𝕄))) $$ HI
  icases HK with ⟨%K, #HI⟩
  ihave Htk := (toks_around (F := F) tAll) $$ Htok
  have hk : ∀ c : Dev nD, iprop(((bigSep Finset.univ fun x : Dev nD × Cel => cellInv ER (sched m) (K x) (cell x.1 x.2))
      ∗ (bigSep Finset.univ fun x : Dev nD × Cel => reached ER (cell x.1 x.2) 0))
      ∗ ((bigSep Finset.univ fun k : Cel => atPos ER (cell c k) 0 ∅ 0) ∗ bigSepL tAll (payAt c))) ⊢ (G' m c : sProp 𝕄) := fun c => by
    unfold G'
    iintro ⟨#H, H2⟩
    iexists K
    isplitr; · iexact H
    iexact H2
  iapply (bigSep_with hk)
  isplitr
  · isplitr; · iexact HI
    iexact HR
  · rw [bigSep_sep']
    isplitl [Hat] <;> iassumption

/-- From the semaphores at zero and the ring's state to every device's start. -/
theorem glob : (bigSep Finset.univ fun c => iprop(ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- The credit of a device at the launch is for all that is owed to it. -/
theorem launch_cred (c : Dev nD) : (launchCred (fun c : Dev nD => owed c dAll) c : sProp 𝕄) = cred (owns' c dAll) :=
  Pipeline.launchCred_of_sum _ (fun c => owns' c dAll) (owed_sum dAll) (fun d g h => owns_mine d dAll g h) c

set_option maxRecDepth 20000 in
/-- What the launch gives a device is what its body starts from. -/
theorem start_intro (c : Dev nD) :
    iprop(Pipeline.unscopedRestP Pipeline.Prefetch.none cfg0.spec c (fun b => m ((c : Thread nD τ).loc b)) ∗ levAts L lv
        ∗ launchCred (fun c : Dev nD => owed c dAll) c ∗ prngReg c (ρ c) ∗ G' m c)
      ⊢ (iprop(|={Set.univ}=> (start m c ∗ emp)) : sProp 𝕄) := by
  rw [launch_cred]
  unfold start G' recs
  iintro ⟨-, Hlev, Hcr, -, ⟨%K, ⟨HI, HR⟩, Hat, Ht⟩⟩
  imodintro
  isplitl
  · iexists K
    isplitl [HI HR Hlev]
    · isplitl [HI]; · iexact HI
      isplitl [HR] <;> iassumption
    isplitl [Hat]; · iexact Hat
    iapply (deal_all (F := F) c)
    isplitl [Hcr] <;> iassumption
  · iempintro

/-- Into the body's state before its one step. -/
theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = atStart m c from rfl, scopedRest0_eq]
  unfold atStart bufs0
  iintro ⟨Hs, -, Hr⟩
  isplitl [Hs]; · iexact Hs
  iexact Hr

/-- Out of the body's state after its one step. -/
theorem leave (c : Dev nD) :
    (dats m ρ 0 c).Φ (Fin.last cfg0.N) ⊢ iprop(unscopedSems0 c ∗ ownSems0 osem c ∗ Pipeline.scopedRest cfg0.spec c) := by
  rw [show (dats m ρ 0 c).Φ (Fin.last cfg0.N) = atEnd c from rfl, scopedRest0_eq]
  unfold atEnd bufs0
  rw [sems_eq]
  iintro ⟨Hr, Hu, Ho⟩
  isplitl [Hu]; · iexact Hu
  isplitl [Ho]; · iexact Ho
  iexact Hr

/-! ## The run -/

/-- A semaphore that is none of the ring's has no name. -/
theorem dec_none (s : SemLoc sig) (h : ∀ k, csem k ≠ s) : dec s = none := by
  unfold dec
  exact dif_neg fun ⟨k, e⟩ => h k e

/-- All debts rank above 0. -/
theorem above_all : Above 0 dAll := by
  intro x hx
  unfold dAll at hx
  rcases List.mem_cons.mp hx with rfl | hx
  · exact ⟨by decide, by decide⟩
  rcases List.mem_cons.mp hx with rfl | hx
  · exact ⟨by decide, by decide⟩
  exact above_rest 16 0 0 (by omega) (by omega) x hx

set_option maxRecDepth 20000 in
/-- A wait on a semaphore outside the ring is always allowed. -/
theorem wait_stage (c : Dev nD) (s : SemLoc sig) (h : ∀ k, csem k ≠ s) (l : List Debt) (hl : Above 0 l) :
    (levAts L lv : sProp 𝕄) ⊢ MayWait (c : Thread nD τ) s 0 (owed c l) :=
  mayWait c s 0 (by omega) l (by rw [dec_none s h]; exact hl)

/-- The staging copies' semaphores are none of the ring's. -/
theorem stage_other (w : Fin cfg0.W) (s : Fin ((cfg0.win w).nbuf)) : ∀ k, csem k ≠ SemLoc.dma ((cfg0.win w).sem s) := by
  revert w s; decide +kernel

set_option maxRecDepth 20000 in
/-- All waits of the staging are allowed. -/
theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact wait_stage c _ (stage_other w s) dAll above_all
    · exact wait_stage c _ (stage_other w s) [] (fun x hx => absurd hx List.not_mem_nil)

/-- Every staged array is held whole. -/
theorem share_eq (c : Dev nD) (w : Fin cfg0.W) : (dats m ρ 0 c).share w = fullShare := by unfold Dat.share; split <;> rfl

/-- Only the device's main thread has levels. -/
theorem L_tc (g : GSem nD τ sig) (h : g.1.2 ≠ .tc) : L g = ∅ := if_neg h

set_option maxRecDepth 65536 in
/-- Every run of the program ends, with every semaphore at zero and the arrays as the bodies leave them. -/
theorem run_main : θ_run defs (onTc (τ := τ) (main (F := F))) (s₀ m ρ)
    (fun r => (∀ c : Dev nD, ∀ w : Fin cfg0.W, r.2.mem ((cfg0.win w).arr.view.loc (c : Thread nD τ)) = (dats m ρ 0 c).arrAt w cfg0.N)
      ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun c => owed c dAll) (howed₀ := fun _ => rfl) (howedN := fun _ => rfl)
    (L := L) (lv := lv) (hL := L_tc) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Ring

end
-- ==== Proof.Frames.lean ====
/- The frame of the kernel, at any float values: every run ends with the arguments unchanged and every semaphore at zero. -/
module

public import proofs.«01_k».proof.Proof.Launch
public import proofs.«01_k».proof.Defs
public import proofs.«01_k».proof.Proof.Gen.Kernel

@[expose] public section

noncomputable section

namespace Cert.Ring

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The result of device `c`, and its arguments, after a run. -/
theorem run_value : θ_run defs (onTc (τ := τ) (main (F := F))) ⟨m, fun _ => 0, ρ⟩
    (fun r => (∀ c : Dev nD,
      r.2.mem ((c.tc : Thread nD τ).loc main_v1) = (dats m ρ 0 c).arrAt (4 : Fin 5) cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨h.1 c (4 : Fin 5),
      (h.1 c (0 : Fin 5)).trans ((dats m ρ 0 c).arrAt_in (0 : Fin 5) rfl _),
      (h.1 c (1 : Fin 5)).trans ((dats m ρ 0 c).arrAt_in (1 : Fin 5) rfl _),
      (h.1 c (2 : Fin 5)).trans ((dats m ρ 0 c).arrAt_in (2 : Fin 5) rfl _),
      (h.1 c (3 : Fin 5)).trans ((dats m ρ 0 c).arrAt_in (3 : Fin 5) rfl _)⟩, h.2⟩) (run_main m ρ)

/-- The kernel over the extended reals terminates without fault, leaves its arguments unchanged and every semaphore at zero. -/
theorem frame_ideal : Cert.quiescent_KernelIdeal := fun m ρ _ =>
  (θ_run defs _ _).mono (fun _ h => ⟨fun c => (h.1 c).2, h.2⟩) (run_value (F := Ideal) m ρ)

/-! ## The kernel as printed

The two programs have the same text, so the run of one is the run of the other. -/

set_option maxRecDepth 65536 in
/-- The two programs have the same kernel bodies. -/
theorem bodies_same : @Cert.Kernel.defs₀ F _ _ = @Cert.KernelIdeal.defs₀ F _ _ := by
  unfold Cert.Kernel.defs₀ Cert.KernelIdeal.defs₀
  refine congrArg Defs.onTc ?_
  funext l x
  match l, x with
  | ⟨0, _⟩, (t, s) => exact rfl
  | ⟨k + 1, h⟩, _ => exact absurd h (Nat.not_lt.2 (Nat.le_add_left _ _))

/-- The two programs have the same tables of definitions. -/
theorem tables_same : @Cert.Kernel.defs F _ _ = @Cert.KernelIdeal.defs F _ _ := by
  unfold Cert.Kernel.defs Cert.KernelIdeal.defs
  exact congrArg _ bodies_same

/-- The kernel as printed terminates without fault, leaves its arguments unchanged and every semaphore at zero. -/
theorem frame_kernel : Cert.quiescent_Kernel := fun m ρ _ => by
  have h := run_value (F := Bits) m ρ
  rw [← tables_same] at h
  exact (θ_run Cert.Kernel.defs _ _).mono (fun _ h => ⟨fun c => (h.1 c).2, h.2⟩) h

end Cert.Ring

end
-- ==== Proof.Sum.lean ====
/- The kernel's result over the extended reals: the sum over the ring's devices of the products of their blocks is the
   product of the whole arrays. -/
module

public import proofs.«01_k».proof.Proof.Launch
public import Idealize.ShloMosaic.Lib.Pointwise
public import Idealize.ShloMosaic.Lib.MatmulPlain
public import Idealize.ShloMosaic.Lib.Layout

@[expose] public section

noncomputable section

namespace Cert.Ring

open Cert.KernelIdeal Cert.KernelIdeal.Gen
open Idealize.ShloMosaic Idealize.ShloMosaic.TcCoe
open Idealize.SL.Sem

section Whole

variable {F : FTy → Type} [FloatOps F]
variable (m : (ℓ : Loc nD τ sig) → Buf (Elt F) ℓ) (ρ : Dev nD → PrngReg)

/-! ## The windows are the whole arrays -/

/-- A device's block of `x` is its first argument. -/
theorem blkX_eq (c : Dev nD) : blkX m c = m ((c : Thread nD τ).loc main_arg0) :=
  Memref.read_access_unit_zero (Elt F) main_arg0 (funext fun a => by fin_cases a <;> decide) (fun a => by fin_cases a <;> decide) _
/-- A device's block of `w_mat` is its second argument. -/
theorem blkW_eq (c : Dev nD) : blkW m c = m ((c : Thread nD τ).loc main_arg1) :=
  Memref.read_access_unit_zero (Elt F) main_arg1 (funext fun a => by fin_cases a <;> decide) (fun a => by fin_cases a <;> decide) _
/-- A device's first scale is its third argument. -/
theorem blkA_eq (c : Dev nD) : blkA m c = m ((c : Thread nD τ).loc main_arg2) :=
  Memref.read_access_unit_zero (Elt F) main_arg2 (funext fun a => by fin_cases a <;> decide) (fun a => by fin_cases a <;> decide) _
/-- A device's second scale is its fourth argument. -/
theorem blkB_eq (c : Dev nD) : blkB m c = m ((c : Thread nD τ).loc main_arg3) :=
  Memref.read_access_unit_zero (Elt F) main_arg3 (funext fun a => by fin_cases a <;> decide) (fun a => by fin_cases a <;> decide) _

/-- The one point of the grid. -/
abbrev pt : Fin cfg0.N := ⟨0, by decide⟩

/-- The result array after the run is what the body leaves in its staging buffer. -/
theorem final_eq (c : Dev nD) : (dats m ρ 0 c).arrAt (4 : Fin 5) cfg0.N = finV m c := by
  have h : ((cfg0.win (4 : Fin 5)).blk pt).view.read (Elt F) ((dats m ρ 0 c).arrAt (4 : Fin 5) cfg0.N)
      = (dats m ρ 0 c).flushed (4 : Fin 5) pt := by
    rw [show cfg0.N = (pt : Fin cfg0.N).val + 1 from rfl, (dats m ρ 0 c).arrAt_succ (4 : Fin 5) pt]
    rw [show (cfg0.win (4 : Fin 5)).flush pt = true from by decide, if_pos rfl]
    exact View.read_write_univ _ _
  have e := Memref.read_access_unit_zero (Elt F) main_v1 (off := fun a => win0_4.index pt a * main_v1.ty.shape.size a)
    (funext fun a => by fin_cases a <;> decide) (fun a => by fin_cases a <;> decide) ((dats m ρ 0 c).arrAt (4 : Fin 5) cfg0.N)
  exact e.symm.trans (h.trans rfl)

end Whole

/-! ## The ring -/

/-- The devices whose blocks have been multiplied in at the end of hop `h`. -/
def seen (c : Dev nD) : ℕ → List (Dev nD)
  | 0 => [c]
  | h + 1 => org true (h + 1) c :: org false (h + 1) c :: seen c h

/-- The blocks that a device sees, from both sides, are each device's once. -/
theorem seen_all : ∀ c : Dev nD, (org false 16 c :: seen c 15).Perm (List.finRange 32) := by decide +kernel

variable (m : (ℓ : Loc nD τ sig) → Buf (Elt Ideal) ℓ)

/-- One element of the product of the rows of device `c` with the blocks of device `o`. -/
def part (c o : Dev nD) (i : Fin 128) (j : Fin 8192) : EReal :=
  ∑ k : Fin 128, (blkX m o (ix2 (⟨128 * c.val + i.val, row_lt c i⟩ : Fin 4096) k) : EReal) * blkW m o (ix2 k j)

/-- Adding a block's product, at an index. -/
theorem addBlk_apply (c o : Dev nD) (v : Vec Ideal S128x8192 .f32) (i : Fin 128) (j : Fin 8192) :
    addBlk m c o v (ix2 i j) = (v (ix2 i j) + part m c o i j : EReal) := by
  unfold addBlk part
  pointwise [k0_pay11]
  exact congrArg _ (Finset.sum_congr rfl fun k _ => rfl)

/-- The product of the device's own blocks, at an index. -/
theorem first_apply (c : Dev nD) (i : Fin 128) (j : Fin 8192) :
    k0_pay8 (tileOf c (blkX m c)) (fullOf (blkW m c)) (ix2 i j) = part m c c i j := by
  unfold part
  pointwise [k0_pay8]
  exact Finset.sum_congr rfl fun k _ => rfl

/-- The result buffer after some hops, at an index: the shares of the blocks seen so far. -/
theorem out_apply (c : Dev nD) (i : Fin 128) (j : Fin 8192) :
    ∀ h, outV m c (h + 1) (ix2 i j) = ((seen c h).map (fun o => part m c o i j)).sum
  | 0 => by
      refine (first_apply m c i j).trans ?_
      simp [seen]
  | h + 1 => by
      refine (addBlk_apply m c _ _ i j).trans ?_
      rw [addBlk_apply, out_apply c i j h]
      simp only [seen, List.map_cons, List.sum_cons]
      rw [add_comm, add_comm (List.sum _)]

/-- The result before the scale: all the devices' parts. -/
theorem total_apply (c : Dev nD) (i : Fin 128) (j : Fin 8192) :
    addBlk m c (org false 16 c) (outV m c 16) (ix2 i j) = ∑ o : Dev nD, part m c o i j := by
  refine (addBlk_apply m c _ _ i j).trans ?_
  rw [out_apply m c i j 15, add_comm]
  have h := ((seen_all c).map (fun o => part m c o i j)).sum_eq
  rw [List.map_cons, List.sum_cons] at h
  rw [h]
  exact (List.sum_ofFn (f := fun o : Fin 32 => part m c o i j) ▸ by rw [List.ofFn_eq_map])

/-- The activation of one scaled element. -/
def act (y : EReal) : EReal :=
  Ideal.div y (1 + Ideal.exp (0 - min (Ideal.ofBits .f32 0x42700000#32) (max (Ideal.ofBits .f32 0xC2700000#32) y)))

/-- The result of device `c` at an element. -/
theorem fin_apply (c : Dev nD) (i : Fin 128) (j : Fin 8192) :
    finV m c (ix2 i j) = act ((∑ o : Dev nD, part m c o i j) * ((blkA m c one1 : EReal) * blkB m c one1)) := by
  rw [← total_apply]
  unfold finV act
  generalize addBlk m c (org false 16 c) (outV m c 16) = v
  pointwise [k0_pay1, k0_pay49]

end Cert.Ring

end
-- ==== Proof.RefValue.lean ====
/- The reference's result array after a run, as its body's one expression of the arguments. -/
module

public import proofs.«01_k».proof.Proof.Gen.ReferenceIdeal.Value
public import Idealize.ShloMosaic.Lib.Pointwise
public import Idealize.ShloMosaic.Lib.Pipeline.ValueKit

@[expose] public section

noncomputable section

namespace Cert.Ring.Plain

open Cert.ReferenceIdeal Cert.ReferenceIdeal.Gen
open Idealize.ShloMosaic Idealize.ShloMosaic.TcCoe
open Idealize.SL.Sem

section Whole

variable {F : FTy → Type} [FloatOps F]
variable (m : (ℓ : Loc nD τ sig) → Buf (Elt F) ℓ) (ρ : Dev nD → PrngReg)

abbrev one1 : S1.Idx := Shape.Idx.first (numel1_S1.symm ▸ Nat.one_pos)

/-- An array of one element has one index. -/
theorem one1_eq (i : S1.Idx) : i = one1 := by
  funext a
  match a with
  | ⟨0, _⟩ => exact Subsingleton.elim (α := Fin 1) _ _

/-- Two zeros are the zero offset. -/
theorem zero2 : (![0, 0] : Fin 2 → Nat) = fun _ => 0 := funext fun a => by fin_cases a <;> rfl
/-- One zero is the zero offset. -/
theorem zero1 : (![0] : Fin 1 → Nat) = fun _ => 0 := funext fun a => by fin_cases a; rfl

/-- The one point of the grid. -/
abbrev pt : Fin cfg0.N := ⟨0, by decide⟩

/-- The body leaves one expression of what it reads. -/
theorem body_value (c : Dev nD) (a0 : Memref sig .tc .vmem S4096x4096 .fp8e5m2) (h0 : a0.IsWhole)
    (a1 : Memref sig .tc .vmem S4096x8192 .fp8e5m2) (h1 : a1.IsWhole) (a2 : Memref sig .tc .smem S1 .f32) (h2 : a2.IsWhole)
    (a3 : Memref sig .tc .smem S1 .f32) (h3 : a3.IsWhole) (a4 : Memref sig .tc .vmem S4096x8192 .f32) (h4 : a4.IsWhole)
    (x : Vec F S4096x4096 .fp8e5m2) (w : Vec F S4096x8192 .fp8e5m2) (a b : Vec F S1 .f32) :
    out0_A_4 c a0 h0 a1 h1 a2 h2 a3 h3 a4 h4 x w a b = k0_pay1 x w (a one1) (b one1) := by
  unfold out0_A_4
  rw [View.read_writes_eq_canon _ _ _ (cover0_A_4 c a0 h0 a1 h1 a2 h2 a3 h3 a4 h4 x w a b)]
  unfold kernelRun0_A
  dsimp only
  sl_unfold_words
  rw [View.canon_unit_zero zero2]
  simp only [View.readAt_eq_ld, h0.read_unread, h1.read_unread, h2.read_unread, h3.read_unread,
    View.ld_unit_zero (S := S4096x4096) zero2, View.ld_unit_zero (S := S4096x8192) zero2, View.ld_unit_zero (S := S1) zero1]
  exact congrArg₂ (k0_pay1 x w) (congrArg a (one1_eq _)) (congrArg b (one1_eq _))

/-- The result array of the run. -/
theorem final_eq (c : Dev nD) : (dats m 0 c).arrAt 4 cfg0.N
    = k0_pay1 (m ((c : Thread nD τ).loc main_arg0)) (m ((c : Thread nD τ).loc main_arg1))
        (m ((c : Thread nD τ).loc main_arg2) one1) (m ((c : Thread nD τ).loc main_arg3) one1) := by
  have h := (Value.blocks4 m c pt (by decide)).trans (Value.flushed4_A m c pt)
  have e := Memref.read_access_unit_zero (Elt F) main_v0 (off := fun a => win0_4.index pt a * main_v0.ty.shape.size a)
    (funext fun a => by fin_cases a <;> decide) (fun a => by fin_cases a <;> decide) ((dats m 0 c).arrAt 4 cfg0.N)
  have e0 : iblk m c 0 pt = m ((c : Thread nD τ).loc main_arg0) :=
    Memref.read_access_unit_zero (Elt F) main_arg0 (funext fun a => by fin_cases a <;> decide) (fun a => by fin_cases a <;> decide) _
  have e1 : iblk m c 1 pt = m ((c : Thread nD τ).loc main_arg1) :=
    Memref.read_access_unit_zero (Elt F) main_arg1 (funext fun a => by fin_cases a <;> decide) (fun a => by fin_cases a <;> decide) _
  have e2 : iblk m c 2 pt = m ((c : Thread nD τ).loc main_arg2) :=
    Memref.read_access_unit_zero (Elt F) main_arg2 (funext fun a => by fin_cases a <;> decide) (fun a => by fin_cases a <;> decide) _
  have e3 : iblk m c 3 pt = m ((c : Thread nD τ).loc main_arg3) :=
    Memref.read_access_unit_zero (Elt F) main_arg3 (funext fun a => by fin_cases a <;> decide) (fun a => by fin_cases a <;> decide) _
  rw [e0, e1, e2, e3, body_value] at h
  exact e.symm.trans (h.trans rfl)

end Whole

/-- The activation of one scaled element. -/
def act (y : EReal) : EReal :=
  Ideal.div y (1 + Ideal.exp (0 - min (Ideal.ofBits .f32 0x42700000#32) (max (Ideal.ofBits .f32 0xC2700000#32) y)))

/-- The reference's result at an element. -/
theorem pay_apply (x : Vec Ideal S4096x4096 .fp8e5m2) (w : Vec Ideal S4096x8192 .fp8e5m2) (a b : Elt Ideal .f32) (i : S4096x8192.Idx) :
    k0_pay1 x w a b i = act ((∑ k : Fin 4096, (x (ix2 (i 0) k) : EReal) * w (ix2 k (i 1))) * ((a : EReal) * b)) := by
  unfold act
  pointwise [k0_pay1]

end Cert.Ring.Plain

end
-- ==== Proof.Algebra.lean ====
/- Over the extended reals the devices' results are the blocks of the reference's result. -/
module

public import proofs.«01_k».proof.Proof.Frames
public import proofs.«01_k».proof.Proof.Sum
public import proofs.«01_k».proof.Proof.RefValue

@[expose] public section

noncomputable section

namespace Cert.Ring

open Cert.KernelIdeal Cert.KernelIdeal.Gen
open Idealize.ShloMosaic Idealize.ShloMosaic.TcCoe
open Idealize.SL.Sem

/-! ## The blocks of the arguments -/

/-- Where column `k` of device `o`'s columns is in the whole. -/
def place (o : Fin 32) (k : Fin 128) : Fin 4096 := finProdFinEquiv (o, k)

/-- The place of index `k` of block `o` is `128 * o + k`. -/
theorem place_val (o : Fin 32) (k : Fin 128) : (place o k).val = o.val * 128 + k.val := by
  show k.val + 128 * o.val = _
  omega

/-- A sum over the blocks of the sums over each block is the sum over all 4096 places. -/
theorem sum_place (f : Fin 4096 → EReal) : ∑ o : Fin 32, ∑ k : Fin 128, f (place o k) = ∑ K : Fin 4096, f K := by
  rw [← Fintype.sum_prod_type' (fun o k => f (place o k))]
  exact Equiv.sum_comp (finProdFinEquiv (m := 32) (n := 128)) f

/-- Block `o` of the columns, at an index, is the whole matrix at the index's place. -/
theorem columns_apply {α : Type} (o : Fin 32) (X : (⟨2, ![4096, 4096]⟩ : Shape).Idx → α) (r : Fin 4096) (k : Fin 128) :
    Layout.block ⟨2, ![4096, 128]⟩ ⟨2, ![4096, 4096]⟩ 1 32 o X (by decide) (ix2 r k) = X (ix2 r (place o k)) := by
  refine congrArg X (funext fun a => Fin.ext ?_)
  match a with
  | ⟨0, _⟩ => rfl
  | ⟨1, _⟩ => exact (place_val o k).symm

/-- Block `o` of the rows, at an index, is the whole matrix at the index's place. -/
theorem rows_apply {α : Type} (o : Fin 32) (X : (⟨2, ![4096, 8192]⟩ : Shape).Idx → α) (k : Fin 128) (j : Fin 8192) :
    Layout.block ⟨2, ![128, 8192]⟩ ⟨2, ![4096, 8192]⟩ 0 32 o X (by decide) (ix2 k j) = X (ix2 (place o k) j) := by
  refine congrArg X (funext fun a => Fin.ext ?_)
  match a with
  | ⟨0, _⟩ => exact (place_val o k).symm
  | ⟨1, _⟩ => rfl

/-! ## The whole product -/

variable (m : (ℓ : Loc nD τ sig) → Buf (Elt Ideal) ℓ)
variable (X : FVec Ideal ⟨2, ![4096, 4096]⟩ .fp8e5m2) (W : FVec Ideal ⟨2, ![4096, 8192]⟩ .fp8e5m2)

/-- Device `o`'s share of an element of device `c`'s result, from the whole matrices. -/
theorem part_whole (hX : ∀ o : Dev nD, m ((o : Thread nD τ).loc main_arg0) = Layout.block ⟨2, ![4096, 128]⟩ ⟨2, ![4096, 4096]⟩ 1 32 o X)
    (hW : ∀ o : Dev nD, m ((o : Thread nD τ).loc main_arg1) = Layout.block ⟨2, ![128, 8192]⟩ ⟨2, ![4096, 8192]⟩ 0 32 o W)
    (c o : Dev nD) (i : Fin 128) (j : Fin 8192) :
    part m c o i j = ∑ k : Fin 128, (X (ix2 (place c i) (place o k)) : EReal) * W (ix2 (place o k) j) := by
  unfold part
  refine Finset.sum_congr rfl fun k _ => ?_
  have hr : (⟨128 * c.val + i.val, row_lt c i⟩ : Fin 4096) = place c i := Fin.ext (by rw [place_val]; show 128 * c.val + i.val = _; omega)
  rw [blkX_eq, blkW_eq, hX, hW, hr]
  exact congrArg₂ (fun a b : EReal => a * b) (columns_apply o X (place c i) k) (rows_apply o W k j)

/-- The shares of all devices add up to one sum over the 4096 columns of `X`. -/
theorem sum_whole (hX : ∀ o : Dev nD, m ((o : Thread nD τ).loc main_arg0) = Layout.block ⟨2, ![4096, 128]⟩ ⟨2, ![4096, 4096]⟩ 1 32 o X)
    (hW : ∀ o : Dev nD, m ((o : Thread nD τ).loc main_arg1) = Layout.block ⟨2, ![128, 8192]⟩ ⟨2, ![4096, 8192]⟩ 0 32 o W)
    (c : Dev nD) (i : Fin 128) (j : Fin 8192) :
    ∑ o : Dev nD, part m c o i j = ∑ K : Fin 4096, (X (ix2 (place c i) K) : EReal) * W (ix2 K j) := by
  rw [Finset.sum_congr rfl fun o _ => part_whole m X W hX hW c o i j]
  exact sum_place fun K => (X (ix2 (place c i) K) : EReal) * W (ix2 K j)

/-- Device `c`'s result is its block of the reference's. -/
theorem result_block (A B : FVec Ideal S1 .f32)
    (hX : ∀ o : Dev nD, m ((o : Thread nD τ).loc main_arg0) = Layout.block ⟨2, ![4096, 128]⟩ ⟨2, ![4096, 4096]⟩ 1 32 o X)
    (hW : ∀ o : Dev nD, m ((o : Thread nD τ).loc main_arg1) = Layout.block ⟨2, ![128, 8192]⟩ ⟨2, ![4096, 8192]⟩ 0 32 o W)
    (c : Dev nD) (hA : m ((c : Thread nD τ).loc main_arg2) = A) (hB : m ((c : Thread nD τ).loc main_arg3) = B) :
    finV m c = Layout.block ⟨2, ![128, 8192]⟩ ⟨2, ![4096, 8192]⟩ 0 32 c
      (Cert.ReferenceIdeal.Gen.k0_pay1 (F := Ideal) X W (A Plain.one1) (B Plain.one1)) := by
  have e : ∀ (i : Fin 128) (j : Fin 8192), finV m c (ix2 i j)
      = Cert.ReferenceIdeal.Gen.k0_pay1 (F := Ideal) X W (A Plain.one1) (B Plain.one1) (ix2 (place c i) j) := fun i j => by
    rw [fin_apply, sum_whole m X W hX hW, blkA_eq, blkB_eq, hA, hB]
    exact (Plain.pay_apply X W (A Plain.one1) (B Plain.one1) (ix2 (place c i) j)).symm
  funext z
  have hz : z = ix2 (z 0) (z 1) := eq_ix2 z
  rw [hz]
  exact (e (z 0) (z 1)).trans (rows_apply c _ (z 0) (z 1)).symm

/-- The reference's result, of its arguments in memory. -/
def whole (m' : (ℓ : Loc Cert.ReferenceIdeal.nD Cert.ReferenceIdeal.τ Cert.ReferenceIdeal.sig) → Buf (Elt Ideal) ℓ) :
    FVec Ideal ⟨2, ![4096, 8192]⟩ .f32 :=
  let t : Thread Cert.ReferenceIdeal.nD Cert.ReferenceIdeal.τ := (0 : Dev Cert.ReferenceIdeal.nD).tc
  Cert.ReferenceIdeal.Gen.k0_pay1 (F := Ideal) (m' (t.loc Cert.ReferenceIdeal.main_arg0)) (m' (t.loc Cert.ReferenceIdeal.main_arg1))
    (m' (t.loc Cert.ReferenceIdeal.main_arg2) Plain.one1) (m' (t.loc Cert.ReferenceIdeal.main_arg3) Plain.one1)

/-- Over the extended reals the kernel's result on device `c` is block `c` of the reference's result. -/
theorem algebraic : Cert.algebraic_KernelIdeal_ReferenceIdeal := fun m g m' g' _ h =>
  ⟨whole m',
    (θ_run defs _ _).mono (fun _ e c => ⟨(e.1 c).1.trans ((final_eq m g c).trans
      (result_block m _ _ _ _ (fun o => (h o).1) (fun o => (h o).2.1) c (h c).2.2.1 (h c).2.2.2)), (e.1 c).2⟩) (run_value (F := Ideal) m g),
    (θ_run Cert.ReferenceIdeal.defs _ _).mono
      (fun _ h => ⟨(h 0).1.trans (Plain.final_eq m' 0), (h 0).2⟩) (Cert.ReferenceIdeal.Value.run_blocks (F := Ideal) m' g')⟩

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ring.frame_kernel, Cert.Ring.frame_ideal, fun m ρ _ => Cert.ReferenceIdeal.Gen.frame m ρ, trivial, Cert.Ring.algebraic⟩

end Cert.Proof

end
